-- ==== Defs.lean ====
def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionRefIdeal (m : (ℓ : Loc Cert.AttentionRefIdeal.nD Cert.AttentionRefIdeal.τ Cert.AttentionRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_StickBreaking (m : (ℓ : Loc Cert.StickBreaking.nD Cert.StickBreaking.τ Cert.StickBreaking.sig) → Buf (Elt Bits) ℓ) : Prop :=
  True

def Pre_StickBreakingIdeal (m : (ℓ : Loc Cert.StickBreakingIdeal.nD Cert.StickBreakingIdeal.τ Cert.StickBreakingIdeal.sig) → Buf (Elt Ideal) ℓ) : Prop :=
  True

def Pre_StickBreakingRefIdeal (m : (ℓ : Loc Cert.StickBreakingRefIdeal.nD Cert.StickBreakingRefIdeal.τ Cert.StickBreakingRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8))
      ∧ r.2.sem = fun _ => 0)

def quiescent_StickBreaking [hStickBreaking : Cert.StickBreaking.Facts] : Prop :=
  ∀ (m : (ℓ : Loc Cert.StickBreaking.nD Cert.StickBreaking.τ Cert.StickBreaking.sig) → Buf (Elt Bits) ℓ) (g : Dev Cert.StickBreaking.nD → PrngReg), Pre_StickBreaking m →
    θ_run (Cert.StickBreaking.defs (F := Bits)) (onTc (τ := Cert.StickBreaking.τ) (Cert.StickBreaking.main (F := Bits))) ⟨m, fun _ => 0, g⟩ (fun r => (∀ c : Dev Cert.StickBreaking.nD,
      r.2.mem ((c.tc : Thread Cert.StickBreaking.nD Cert.StickBreaking.τ).loc Cert.StickBreaking.main_arg0) = m ((c.tc : Thread Cert.StickBreaking.nD Cert.StickBreaking.τ).loc Cert.StickBreaking.main_arg0)
      ∧ r.2.mem ((c.tc : Thread Cert.StickBreaking.nD Cert.StickBreaking.τ).loc Cert.StickBreaking.main_arg1) = m ((c.tc : Thread Cert.StickBreaking.nD Cert.StickBreaking.τ).loc Cert.StickBreaking.main_arg1)
      ∧ r.2.mem ((c.tc : Thread Cert.StickBreaking.nD Cert.StickBreaking.τ).loc Cert.StickBreaking.main_arg2) = m ((c.tc : Thread Cert.StickBreaking.nD Cert.StickBreaking.τ).loc Cert.StickBreaking.main_arg2))
      ∧ r.2.sem = fun _ => 0)

def quiescent_StickBreakingIdeal [hStickBreakingIdeal : Cert.StickBreakingIdeal.Facts] : Prop :=
  ∀ (m : (ℓ : Loc Cert.StickBreakingIdeal.nD Cert.StickBreakingIdeal.τ Cert.StickBreakingIdeal.sig) → Buf (Elt Ideal) ℓ) (g : Dev Cert.StickBreakingIdeal.nD → PrngReg), Pre_StickBreakingIdeal m →
    θ_run (Cert.StickBreakingIdeal.defs (F := Ideal)) (onTc (τ := Cert.StickBreakingIdeal.τ) (Cert.StickBreakingIdeal.main (F := Ideal))) ⟨m, fun _ => 0, g⟩ (fun r => (∀ c : Dev Cert.StickBreakingIdeal.nD,
      r.2.mem ((c.tc : Thread Cert.StickBreakingIdeal.nD Cert.StickBreakingIdeal.τ).loc Cert.StickBreakingIdeal.main_arg0) = m ((c.tc : Thread Cert.StickBreakingIdeal.nD Cert.StickBreakingIdeal.τ).loc Cert.StickBreakingIdeal.main_arg0)
      ∧ r.2.mem ((c.tc : Thread Cert.StickBreakingIdeal.nD Cert.StickBreakingIdeal.τ).loc Cert.StickBreakingIdeal.main_arg1) = m ((c.tc : Thread Cert.StickBreakingIdeal.nD Cert.StickBreakingIdeal.τ).loc Cert.StickBreakingIdeal.main_arg1)
      ∧ r.2.mem ((c.tc : Thread Cert.StickBreakingIdeal.nD Cert.StickBreakingIdeal.τ).loc Cert.StickBreakingIdeal.main_arg2) = m ((c.tc : Thread Cert.StickBreakingIdeal.nD Cert.StickBreakingIdeal.τ).loc Cert.StickBreakingIdeal.main_arg2))
      ∧ r.2.sem = fun _ => 0)

def quiescent_StickBreakingRefIdeal [hStickBreakingRefIdeal : Cert.StickBreakingRefIdeal.Facts] : Prop :=
  ∀ (m : (ℓ : Loc Cert.StickBreakingRefIdeal.nD Cert.StickBreakingRefIdeal.τ Cert.StickBreakingRefIdeal.sig) → Buf (Elt Ideal) ℓ) (g : Dev Cert.StickBreakingRefIdeal.nD → PrngReg), Pre_StickBreakingRefIdeal m →
    θ_run (Cert.StickBreakingRefIdeal.defs (F := Ideal)) (onTc (τ := Cert.StickBreakingRefIdeal.τ) (Cert.StickBreakingRefIdeal.main (F := Ideal))) ⟨m, fun _ => 0, g⟩ (fun r => (∀ c : Dev Cert.StickBreakingRefIdeal.nD,
      r.2.mem ((c.tc : Thread Cert.StickBreakingRefIdeal.nD Cert.StickBreakingRefIdeal.τ).loc Cert.StickBreakingRefIdeal.main_arg0) = m ((c.tc : Thread Cert.StickBreakingRefIdeal.nD Cert.StickBreakingRefIdeal.τ).loc Cert.StickBreakingRefIdeal.main_arg0)
      ∧ r.2.mem ((c.tc : Thread Cert.StickBreakingRefIdeal.nD Cert.StickBreakingRefIdeal.τ).loc Cert.StickBreakingRefIdeal.main_arg1) = m ((c.tc : Thread Cert.StickBreakingRefIdeal.nD Cert.StickBreakingRefIdeal.τ).loc Cert.StickBreakingRefIdeal.main_arg1)
      ∧ r.2.mem ((c.tc : Thread Cert.StickBreakingRefIdeal.nD Cert.StickBreakingRefIdeal.τ).loc Cert.StickBreakingRefIdeal.main_arg2) = m ((c.tc : Thread Cert.StickBreakingRefIdeal.nD Cert.StickBreakingRefIdeal.τ).loc Cert.StickBreakingRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def preserves_Attention_AttentionIdeal : Prop :=
  IdealRules.named_const.Statement Cert.AttentionIdeal.κ "mask" .f32 0xF149F2CA#32 ⊥

def algebraic_AttentionIdeal_AttentionRefIdeal [hAttentionIdeal : Cert.AttentionIdeal.Facts] [hAttentionRefIdeal : Cert.AttentionRefIdeal.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)) →
    ∃ (v0 : (c : Dev Cert.AttentionIdeal.nD) → Buf (Elt Ideal) ((c.tc : Thread Cert.AttentionIdeal.nD Cert.AttentionIdeal.τ).loc Cert.AttentionIdeal.main_v0)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v30) = v0 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1)
          ∧ r.2.mem ((c.tc : Thread Cert.AttentionRefIdeal.nD Cert.AttentionRefIdeal.τ).loc Cert.AttentionRefIdeal.main_arg2) = m' ((c.tc : Thread Cert.AttentionRefIdeal.nD Cert.AttentionRefIdeal.τ).loc Cert.AttentionRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v33) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v44) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8))

def preserves_StickBreaking_StickBreakingIdeal : Prop :=
  True

def algebraic_StickBreakingIdeal_StickBreakingRefIdeal [hStickBreakingIdeal : Cert.StickBreakingIdeal.Facts] [hStickBreakingRefIdeal : Cert.StickBreakingRefIdeal.Facts] : Prop :=
  ∀ (m : (ℓ : Loc Cert.StickBreakingIdeal.nD Cert.StickBreakingIdeal.τ Cert.StickBreakingIdeal.sig) → Buf (Elt Ideal) ℓ) (g : Dev Cert.StickBreakingIdeal.nD → PrngReg)
    (m' : (ℓ : Loc Cert.StickBreakingRefIdeal.nD Cert.StickBreakingRefIdeal.τ Cert.StickBreakingRefIdeal.sig) → Buf (Elt Ideal) ℓ) (g' : Dev Cert.StickBreakingRefIdeal.nD → PrngReg), Pre_StickBreakingIdeal m →
    (∀ c : Dev Cert.StickBreakingIdeal.nD,
      m' ((c.tc : Thread Cert.StickBreakingRefIdeal.nD Cert.StickBreakingRefIdeal.τ).loc Cert.StickBreakingRefIdeal.main_arg0) = m ((c.tc : Thread Cert.StickBreakingIdeal.nD Cert.StickBreakingIdeal.τ).loc Cert.StickBreakingIdeal.main_arg0)
      ∧ m' ((c.tc : Thread Cert.StickBreakingRefIdeal.nD Cert.StickBreakingRefIdeal.τ).loc Cert.StickBreakingRefIdeal.main_arg1) = m ((c.tc : Thread Cert.StickBreakingIdeal.nD Cert.StickBreakingIdeal.τ).loc Cert.StickBreakingIdeal.main_arg1)
      ∧ m' ((c.tc : Thread Cert.StickBreakingRefIdeal.nD Cert.StickBreakingRefIdeal.τ).loc Cert.StickBreakingRefIdeal.main_arg2) = m ((c.tc : Thread Cert.StickBreakingIdeal.nD Cert.StickBreakingIdeal.τ).loc Cert.StickBreakingIdeal.main_arg2)) →
    ∃ (v0 : (c : Dev Cert.StickBreakingIdeal.nD) → Buf (Elt Ideal) ((c.tc : Thread Cert.StickBreakingIdeal.nD Cert.StickBreakingIdeal.τ).loc Cert.StickBreakingIdeal.main_v3)),
      θ_run (Cert.StickBreakingIdeal.defs (F := Ideal)) (onTc (τ := Cert.StickBreakingIdeal.τ) (Cert.StickBreakingIdeal.main (F := Ideal))) ⟨m, fun _ => 0, g⟩ (fun r => ∀ c : Dev Cert.StickBreakingIdeal.nD,
          r.2.mem ((c.tc : Thread Cert.StickBreakingIdeal.nD Cert.StickBreakingIdeal.τ).loc Cert.StickBreakingIdeal.main_v3) = v0 c
          ∧ r.2.mem ((c.tc : Thread Cert.StickBreakingIdeal.nD Cert.StickBreakingIdeal.τ).loc Cert.StickBreakingIdeal.main_arg0) = m ((c.tc : Thread Cert.StickBreakingIdeal.nD Cert.StickBreakingIdeal.τ).loc Cert.StickBreakingIdeal.main_arg0)
          ∧ r.2.mem ((c.tc : Thread Cert.StickBreakingIdeal.nD Cert.StickBreakingIdeal.τ).loc Cert.StickBreakingIdeal.main_arg1) = m ((c.tc : Thread Cert.StickBreakingIdeal.nD Cert.StickBreakingIdeal.τ).loc Cert.StickBreakingIdeal.main_arg1)
          ∧ r.2.mem ((c.tc : Thread Cert.StickBreakingIdeal.nD Cert.StickBreakingIdeal.τ).loc Cert.StickBreakingIdeal.main_arg2) = m ((c.tc : Thread Cert.StickBreakingIdeal.nD Cert.StickBreakingIdeal.τ).loc Cert.StickBreakingIdeal.main_arg2))
      ∧ θ_run (Cert.StickBreakingRefIdeal.defs (F := Ideal)) (onTc (τ := Cert.StickBreakingRefIdeal.τ) (Cert.StickBreakingRefIdeal.main (F := Ideal))) ⟨m', fun _ => 0, g'⟩ (fun r => ∀ c : Dev Cert.StickBreakingRefIdeal.nD,
          r.2.mem ((c.tc : Thread Cert.StickBreakingRefIdeal.nD Cert.StickBreakingRefIdeal.τ).loc Cert.StickBreakingRefIdeal.main_v30) = v0 c
          ∧ r.2.mem ((c.tc : Thread Cert.StickBreakingRefIdeal.nD Cert.StickBreakingRefIdeal.τ).loc Cert.StickBreakingRefIdeal.main_arg0) = m' ((c.tc : Thread Cert.StickBreakingRefIdeal.nD Cert.StickBreakingRefIdeal.τ).loc Cert.StickBreakingRefIdeal.main_arg0)
          ∧ r.2.mem ((c.tc : Thread Cert.StickBreakingRefIdeal.nD Cert.StickBreakingRefIdeal.τ).loc Cert.StickBreakingRefIdeal.main_arg1) = m' ((c.tc : Thread Cert.StickBreakingRefIdeal.nD Cert.StickBreakingRefIdeal.τ).loc Cert.StickBreakingRefIdeal.main_arg1)
          ∧ r.2.mem ((c.tc : Thread Cert.StickBreakingRefIdeal.nD Cert.StickBreakingRefIdeal.τ).loc Cert.StickBreakingRefIdeal.main_arg2) = m' ((c.tc : Thread Cert.StickBreakingRefIdeal.nD Cert.StickBreakingRefIdeal.τ).loc Cert.StickBreakingRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v119_13)) (v1 : (c : Dev Cert.InProjIdeal.nD) → Buf (Elt Ideal) ((c.tc : Thread Cert.InProjIdeal.nD Cert.InProjIdeal.τ).loc Cert.InProjIdeal.main_v119_14)) (v2 : (c : Dev Cert.InProjIdeal.nD) → Buf (Elt Ideal) ((c.tc : Thread Cert.InProjIdeal.nD Cert.InProjIdeal.τ).loc Cert.InProjIdeal.main_v119_15)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v119_13) = v0 c
          ∧ r.2.mem ((c.tc : Thread Cert.InProjIdeal.nD Cert.InProjIdeal.τ).loc Cert.InProjIdeal.main_v119_14) = v1 c
          ∧ r.2.mem ((c.tc : Thread Cert.InProjIdeal.nD Cert.InProjIdeal.τ).loc Cert.InProjIdeal.main_v119_15) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v23) = v0 c
          ∧ r.2.mem ((c.tc : Thread Cert.InProjRefIdeal.nD Cert.InProjRefIdeal.τ).loc Cert.InProjRefIdeal.main_v24) = v1 c
          ∧ r.2.mem ((c.tc : Thread Cert.InProjRefIdeal.nD Cert.InProjRefIdeal.τ).loc Cert.InProjRefIdeal.main_v25) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5))

def Claim : Prop :=
  ∃ (hAttention : Cert.Attention.Facts) (hAttentionIdeal : Cert.AttentionIdeal.Facts) (hAttentionRefIdeal : Cert.AttentionRefIdeal.Facts) (hFfn : Cert.Ffn.Facts) (hFfnIdeal : Cert.FfnIdeal.Facts) (hFfnRefIdeal : Cert.FfnRefIdeal.Facts) (hOutProj : Cert.OutProj.Facts) (hOutProjIdeal : Cert.OutProjIdeal.Facts) (hOutProjRefIdeal : Cert.OutProjRefIdeal.Facts) (hStickBreaking : Cert.StickBreaking.Facts) (hStickBreakingIdeal : Cert.StickBreakingIdeal.Facts) (hStickBreakingRefIdeal : Cert.StickBreakingRefIdeal.Facts) (hInProj : Cert.InProj.Facts) (hInProjIdeal : Cert.InProjIdeal.Facts) (hInProjRefIdeal : Cert.InProjRefIdeal.Facts),
    quiescent_Attention (hAttention := hAttention)
    ∧ quiescent_AttentionIdeal (hAttentionIdeal := hAttentionIdeal)
    ∧ quiescent_AttentionRefIdeal (hAttentionRefIdeal := hAttentionRefIdeal)
    ∧ quiescent_Ffn (hFfn := hFfn)
    ∧ quiescent_FfnIdeal (hFfnIdeal := hFfnIdeal)
    ∧ quiescent_FfnRefIdeal (hFfnRefIdeal := hFfnRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_StickBreaking (hStickBreaking := hStickBreaking)
    ∧ quiescent_StickBreakingIdeal (hStickBreakingIdeal := hStickBreakingIdeal)
    ∧ quiescent_StickBreakingRefIdeal (hStickBreakingRefIdeal := hStickBreakingRefIdeal)
    ∧ quiescent_InProj (hInProj := hInProj)
    ∧ quiescent_InProjIdeal (hInProjIdeal := hInProjIdeal)
    ∧ quiescent_InProjRefIdeal (hInProjRefIdeal := hInProjRefIdeal)
    ∧ preserves_Attention_AttentionIdeal
    ∧ algebraic_AttentionIdeal_AttentionRefIdeal (hAttentionIdeal := hAttentionIdeal) (hAttentionRefIdeal := hAttentionRefIdeal)
    ∧ preserves_Ffn_FfnIdeal
    ∧ algebraic_FfnIdeal_FfnRefIdeal (hFfnIdeal := hFfnIdeal) (hFfnRefIdeal := hFfnRefIdeal)
    ∧ preserves_OutProj_OutProjIdeal
    ∧ algebraic_OutProjIdeal_OutProjRefIdeal (hOutProjIdeal := hOutProjIdeal) (hOutProjRefIdeal := hOutProjRefIdeal)
    ∧ preserves_StickBreaking_StickBreakingIdeal
    ∧ algebraic_StickBreakingIdeal_StickBreakingRefIdeal (hStickBreakingIdeal := hStickBreakingIdeal) (hStickBreakingRefIdeal := hStickBreakingRefIdeal)
    ∧ preserves_InProj_InProjIdeal
    ∧ algebraic_InProjIdeal_InProjRefIdeal (hInProjIdeal := hInProjIdeal) (hInProjRefIdeal := hInProjRefIdeal)
-- ==== Attention.lean ====
abbrev S16x2048x512 : Shape := ⟨3, ![16, 2048, 512]⟩
abbrev S16x2048x256 : Shape := ⟨3, ![16, 2048, 256]⟩
abbrev S1x256x512 : Shape := ⟨3, ![1, 256, 512]⟩
abbrev S1x2048x512 : Shape := ⟨3, ![1, 2048, 512]⟩
abbrev S1x2048x256 : Shape := ⟨3, ![1, 2048, 256]⟩
abbrev S1x256x256 : Shape := ⟨3, ![1, 256, 256]⟩
abbrev S4x256x1 : Shape := ⟨3, ![4, 256, 1]⟩
abbrev S4x256x256 : Shape := ⟨3, ![4, 256, 256]⟩
abbrev S256x256 : Shape := ⟨2, ![256, 256]⟩
abbrev S256x512 : Shape := ⟨2, ![256, 512]⟩
abbrev S1x256x128 : Shape := ⟨3, ![1, 256, 128]⟩
abbrev S256x128 : Shape := ⟨2, ![256, 128]⟩
abbrev S1x256x1 : Shape := ⟨3, ![1, 256, 1]⟩
abbrev S256x1 : Shape := ⟨2, ![256, 1]⟩
abbrev S256 : Shape := ⟨1, ![256]⟩

abbrev nBuf : Space → Nat
  | .hbm => 4
  | .vmem => 11
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x256, .bf16⟩
  | .hbm, ⟨3, _⟩ => ⟨S16x2048x256, .f32⟩
  | .local _ .vmem, ⟨0, _⟩ => ⟨S1x256x512, .bf16⟩
  | .local _ .vmem, ⟨1, _⟩ => ⟨S1x256x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x256, .f32⟩
  | .local _ .vmem, ⟨7, _⟩ => ⟨S1x256x256, .f32⟩
  | .local _ .vmem, ⟨8, _⟩ => ⟨S4x256x1, .f32⟩
  | .local _ .vmem, ⟨9, _⟩ => ⟨S4x256x1, .f32⟩
  | .local _ .vmem, ⟨10, _⟩ => ⟨S4x256x256, .f32⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v37 : BitVec 32 := Scalar.subi v20 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_21 : BitVec 32 := 1#32
  ⟨c0_i32_19, v41, c1_i32_21⟩
def k0_mult1 (i : grid0.Coords) (k0_t1 : Fin (k0_t1_loop i).trips) : BitVec 32 :=
  let c0_i32_19 : BitVec 32 := 0#32
  let c1_i32_21 : BitVec 32 := 1#32
  let arg9 : BitVec 32 := Scf.iv c0_i32_19 c1_i32_21 k0_t1
  let c256_i32_57 : BitVec 32 := 256#32
  let v103 : BitVec 32 := Scalar.muli arg9 c256_i32_57
  v103
def k0_off1 (i : grid0.Coords) (k0_t1 : Fin (k0_t1_loop i).trips) : Fin 3 → Nat :=
  let c0_58 : Index := 0#32
  let c0_i32_19 : BitVec 32 := 0#32
  let c1_i32_21 : BitVec 32 := 1#32
  let arg9 : BitVec 32 := Scf.iv c0_i32_19 c1_i32_21 k0_t1
  let c256_i32_57 : BitVec 32 := 256#32
  let v103 : BitVec 32 := Scalar.muli arg9 c256_i32_57
  let v104 : BitVec 32 := v103
  let v105 : Index := Scalar.indexCast v104
  let c0_59 : Index := 0#32
  ![0, v105.toNat, 0]
def k0_off2 (i : grid0.Coords) (k0_t1 : Fin (k0_t1_loop i).trips) : Fin 3 → Nat :=
  let c0_60 : Index := 0#32
  let c0_i32_19 : BitVec 32 := 0#32
  let c1_i32_21 : BitVec 32 := 1#32
  let arg9 : BitVec 32 := Scf.iv c0_i32_19 c1_i32_21 k0_t1
  let c256_i32_57 : BitVec 32 := 256#32
  let v103 : BitVec 32 := Scalar.muli arg9 c256_i32_57
  let v104 : BitVec 32 := v103
  let v108 : Index := Scalar.indexCast v104
  let c0_61 : Index := 0#32
  ![0, v108.toNat, 0]
@[reducible] def k0_t2_loop (i : grid0.Coords) : Scf.Loop 32 :=
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v37 : BitVec 32 := Scalar.subi v20 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let v38 : BitVec 32 := Scalar.addi c0_i32_19 v37
  let c1_i32_22 : BitVec 32 := 1#32
  ⟨v41, v38, c1_i32_22⟩
def k0_mult2 (i : grid0.Coords) (k0_t2 : Fin (k0_t2_loop i).trips) : BitVec 32 :=
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v37 : BitVec 32 := Scalar.subi v20 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg9 : BitVec 32 := Scf.iv v41 c1_i32_22 k0_t2
  let c256_i32_57 : BitVec 32 := 256#32
  let v103 : BitVec 32 := Scalar.muli arg9 c256_i32_57
  v103
def k0_off3 (i : grid0.Coords) (k0_t2 : Fin (k0_t2_loop i).trips) : Fin 3 → Nat :=
  let c0_58 : Index := 0#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v37 : BitVec 32 := Scalar.subi v20 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg9 : BitVec 32 := Scf.iv v41 c1_i32_22 k0_t2
  let c256_i32_57 : BitVec 32 := 256#32
  let v103 : BitVec 32 := Scalar.muli arg9 c256_i32_57
  let v104 : BitVec 32 := v103
  let v105 : Index := Scalar.indexCast v104
  let c0_59 : Index := 0#32
  ![0, v105.toNat, 0]
def k0_off4 (i : grid0.Coords) (k0_t2 : Fin (k0_t2_loop i).trips) : Fin 3 → Nat :=
  let c0_60 : Index := 0#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v37 : BitVec 32 := Scalar.subi v20 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg9 : BitVec 32 := Scf.iv v41 c1_i32_22 k0_t2
  let c256_i32_57 : BitVec 32 := 256#32
  let v103 : BitVec 32 := Scalar.muli arg9 c256_i32_57
  let v104 : BitVec 32 := v103
  let v108 : Index := Scalar.indexCast v104
  let c0_61 : Index := 0#32
  ![0, v108.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttentionIdeal.lean ====
variable {F : FTy → Type} [FloatOps F] [Named F]
def κ : String → Option EReal := fun
  | "mask" => some ⊥
  | _ => none
-- ==== AttentionRefIdeal.lean ====
abbrev S16x2048x512 : Shape := ⟨3, ![16, 2048, 512]⟩
abbrev S16x2048x256 : Shape := ⟨3, ![16, 2048, 256]⟩
abbrev S16x2048x4x128 : Shape := ⟨4, ![16, 2048, 4, 128]⟩
abbrev S16x2048x4x64 : Shape := ⟨4, ![16, 2048, 4, 64]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x4x2048x2048 : Shape := ⟨4, ![16, 4, 2048, 2048]⟩
abbrev S_ : Shape := ⟨0, ![]⟩
abbrev S16x4x2048 : Shape := ⟨3, ![16, 4, 2048]⟩
abbrev S16x4x2048x1 : Shape := ⟨4, ![16, 4, 2048, 1]⟩
abbrev S16x4x64x2048 : Shape := ⟨4, ![16, 4, 64, 2048]⟩

abbrev nBuf : Space → Nat
  | .hbm => 46
  | .vmem => 0
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x256, .bf16⟩
  | .hbm, ⟨3, _⟩ => ⟨S16x2048x512, .f32⟩
  | .hbm, ⟨4, _⟩ => ⟨S16x2048x4x128, .f32⟩
  | .hbm, ⟨5, _⟩ => ⟨S16x2048x512, .f32⟩
  | .hbm, ⟨6, _⟩ => ⟨S16x2048x4x128, .f32⟩
  | .hbm, ⟨7, _⟩ => ⟨S16x2048x256, .f32⟩
  | .hbm, ⟨8, _⟩ => ⟨S16x2048x4x64, .f32⟩
  | .hbm, ⟨9, _⟩ => ⟨S2048, .i32⟩
  | .hbm, ⟨10, _⟩ => ⟨S1x2048, .i32⟩
  | .hbm, ⟨11, _⟩ => ⟨S2048x1, .i32⟩
  | .hbm, ⟨12, _⟩ => ⟨S2048x2048, .i32⟩
  | .hbm, ⟨13, _⟩ => ⟨S2048x2048, .i32⟩
  | .hbm, ⟨14, _⟩ => ⟨S2048x2048, .i1⟩
  | .hbm, ⟨15, _⟩ => ⟨S16x4x2048x2048, .f32⟩
  | .hbm, ⟨16, _⟩ => ⟨S_, .f32⟩
  | .hbm, ⟨17, _⟩ => ⟨S16x4x2048x2048, .f32⟩
  | .hbm, ⟨18, _⟩ => ⟨S16x4x2048x2048, .f32⟩
  | .hbm, ⟨19, _⟩ => ⟨S_, .f32⟩
  | .hbm, ⟨20, _⟩ => ⟨S_, .f32⟩
  | .hbm, ⟨21, _⟩ => ⟨S16x4x2048x2048, .i1⟩
  | .hbm, ⟨22, _⟩ => ⟨S16x4x2048x2048, .f32⟩
  | .hbm, ⟨23, _⟩ => ⟨S16x4x2048x2048, .f32⟩
  | .hbm, ⟨24, _⟩ => ⟨S_, .f32⟩
  | .hbm, ⟨25, _⟩ => ⟨S16x4x2048, .f32⟩
  | .hbm, ⟨26, _⟩ => ⟨S16x4x2048x1, .f32⟩
  | .hbm, ⟨27, _⟩ => ⟨S16x4x2048x2048, .f32⟩
  | .hbm, ⟨28, _⟩ => ⟨S16x4x2048x2048, .f32⟩
  | .hbm, ⟨29, _⟩ => ⟨S16x4x2048x2048, .f32⟩
  | .hbm, ⟨30, _⟩ => ⟨S_, .f32⟩
  | .hbm, ⟨31, _⟩ => ⟨S_, .f32⟩
  | .hbm, ⟨32, _⟩ => ⟨S16x4x2048x2048, .i1⟩
  | .hbm, ⟨33, _⟩ => ⟨S16x4x2048x2048, .f32⟩
  | .hbm, ⟨34, _⟩ => ⟨S16x4x2048x2048, .f32⟩
  | .hbm, ⟨35, _⟩ => ⟨S_, .f32⟩
  | .hbm, ⟨36, _⟩ => ⟨S16x4x2048, .f32⟩
  | .hbm, ⟨37, _⟩ => ⟨S16x4x2048x1, .f32⟩
  | .hbm, ⟨38, _⟩ => ⟨S_, .f32⟩
  | .hbm, ⟨39, _⟩ => ⟨S16x4x2048x1, .f32⟩
  | .hbm, ⟨40, _⟩ => ⟨S16x4x2048x1, .f32⟩
  | .hbm, ⟨41, _⟩ => ⟨S16x4x2048x2048, .f32⟩
  | .hbm, ⟨42, _⟩ => ⟨S16x4x2048x2048, .f32⟩
  | .hbm, ⟨43, _⟩ => ⟨S16x4x64x2048, .f32⟩
  | .hbm, ⟨44, _⟩ => ⟨S16x2048x4x64, .f32⟩
  | .hbm, ⟨45, _⟩ => ⟨S16x2048x256, .f32⟩
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Ffn.lean ====
abbrev S32768x1024 : Shape := ⟨2, ![32768, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S512x2816 : Shape := ⟨2, ![512, 2816]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S32768x1024 : Shape := ⟨2, ![32768, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S32768x2816 : Shape := ⟨2, ![32768, 2816]⟩
abbrev S32768 : Shape := ⟨1, ![32768]⟩
abbrev S32768x1 : Shape := ⟨2, ![32768, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S32768x1024, .f32⟩
  | .hbm, ⟨8, _⟩ => ⟨S32768x1024, .f32⟩
  | .hbm, ⟨9, _⟩ => ⟨S32768x2816, .f32⟩
  | .hbm, ⟨10, _⟩ => ⟨S32768x2816, .f32⟩
  | .hbm, ⟨11, _⟩ => ⟨S32768x2816, .f32⟩
  | .hbm, ⟨12, _⟩ => ⟨S_, .f32⟩
  | .hbm, ⟨13, _⟩ => ⟨S32768x2816, .f32⟩
  | .hbm, ⟨14, _⟩ => ⟨S32768x2816, .f32⟩
  | .hbm, ⟨15, _⟩ => ⟨S_, .f32⟩
  | .hbm, ⟨16, _⟩ => ⟨S32768x2816, .f32⟩
  | .hbm, ⟨17, _⟩ => ⟨S32768x2816, .f32⟩
  | .hbm, ⟨18, _⟩ => ⟨S32768x2816, .f32⟩
  | .hbm, ⟨19, _⟩ => ⟨S32768x2816, .f32⟩
  | .hbm, ⟨20, _⟩ => ⟨S32768x2816, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x1024, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | .hbm, ⟨52, _⟩ => ⟨S1x1024, .f32⟩
  | .hbm, ⟨53, _⟩ => ⟨S32768x1024, .f32⟩
  | .hbm, ⟨54, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== OutProj.lean ====
abbrev S32768x256 : Shape := ⟨2, ![32768, 256]⟩
abbrev S32768x1024 : Shape := ⟨2, ![32768, 1024]⟩
abbrev S1024 : Shape := ⟨1, ![1024]⟩
abbrev S1024x1024 : Shape := ⟨2, ![1024, 1024]⟩
abbrev S1x1024 : Shape := ⟨2, ![1, 1024]⟩
abbrev S512x256 : Shape := ⟨2, ![512, 256]⟩
abbrev S512x1024 : Shape := ⟨2, ![512, 1024]⟩
abbrev S1x256 : Shape := ⟨2, ![1, 256]⟩
abbrev S512 : Shape := ⟨1, ![512]⟩
abbrev S512x1 : Shape := ⟨2, ![512, 1]⟩

abbrev nBuf : Space → Nat
  | .hbm => 14
  | .vmem => 16
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S32768x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S32768x1024, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutProjRefIdeal.lean ====
abbrev S32768x256 : Shape := ⟨2, ![32768, 256]⟩
abbrev S32768x1024 : Shape := ⟨2, ![32768, 1024]⟩
abbrev S1024 : Shape := ⟨1, ![1024]⟩
abbrev S1024x1024 : Shape := ⟨2, ![1024, 1024]⟩
abbrev S32768x4x256 : Shape := ⟨3, ![32768, 4, 256]⟩
abbrev S_ : Shape := ⟨0, ![]⟩
abbrev S32768x4 : Shape := ⟨2, ![32768, 4]⟩
abbrev S32768x4x1 : Shape := ⟨3, ![32768, 4, 1]⟩
abbrev S4x256 : Shape := ⟨2, ![4, 256]⟩
abbrev S1x4x256 : Shape := ⟨3, ![1, 4, 256]⟩
abbrev S32768 : Shape := ⟨1, ![32768]⟩
abbrev S32768x1 : Shape := ⟨2, ![32768, 1]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S32768x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S32768x1024, .f32⟩
  | .hbm, ⟨10, _⟩ => ⟨S32768x4x256, .f32⟩
  | .hbm, ⟨11, _⟩ => ⟨S32768x4x256, .f32⟩
  | .hbm, ⟨12, _⟩ => ⟨S_, .f32⟩
  | .hbm, ⟨13, _⟩ => ⟨S32768x4, .f32⟩
  | .hbm, ⟨14, _⟩ => ⟨S32768x4x1, .f32⟩
  | .hbm, ⟨15, _⟩ => ⟨S_, .f32⟩
  | .hbm, ⟨16, _⟩ => ⟨S32768x4x1, .f32⟩
  | .hbm, ⟨17, _⟩ => ⟨S32768x4x1, .f32⟩
  | .hbm, ⟨18, _⟩ => ⟨S_, .f32⟩
  | .hbm, ⟨19, _⟩ => ⟨S32768x4x1, .f32⟩
  | .hbm, ⟨20, _⟩ => ⟨S32768x4x1, .f32⟩
  | .hbm, ⟨21, _⟩ => ⟨S32768x4x1, .f32⟩
  | .hbm, ⟨22, _⟩ => ⟨S32768x4x256, .f32⟩
  | .hbm, ⟨23, _⟩ => ⟨S32768x4x256, .f32⟩
  | .hbm, ⟨24, _⟩ => ⟨S4x256, .f32⟩
  | .hbm, ⟨25, _⟩ => ⟨S1x4x256, .f32⟩
  | .hbm, ⟨26, _⟩ => ⟨S32768x4x256, .f32⟩
  | .hbm, ⟨27, _⟩ => ⟨S32768x4x256, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1024, .f32⟩
  | .hbm, ⟨50, _⟩ => ⟨S32768x1024, .f32⟩
  | .hbm, ⟨51, _⟩ => ⟨S_, .f32⟩
  | .hbm, ⟨52, _⟩ => ⟨S32768x1, .f32⟩
  | .hbm, ⟨53, _⟩ => ⟨S32768x1, .f32⟩
  | .hbm, ⟨54, _⟩ => ⟨S32768x1, .f32⟩
  | .hbm, ⟨55, _⟩ => ⟨S32768x1024, .f32⟩
  | .hbm, ⟨56, _⟩ => ⟨S32768x1024, .f32⟩
  | .hbm, ⟨57, _⟩ => ⟨S1x1024, .f32⟩
  | .hbm, ⟨58, _⟩ => ⟨S32768x1024, .f32⟩
  | .hbm, ⟨59, _⟩ => ⟨S32768x1024, .f32⟩
  | .hbm, ⟨60, _⟩ => ⟨S1x1024, .f32⟩
  | .hbm, ⟨61, _⟩ => ⟨S32768x1024, .f32⟩
  | .hbm, ⟨62, _⟩ => ⟨S32768x1024, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== StickBreaking.lean ====
abbrev S16x2048x256 : Shape := ⟨3, ![16, 2048, 256]⟩
abbrev S_ : Shape := ⟨0, ![]⟩
abbrev S256x256 : Shape := ⟨2, ![256, 256]⟩
abbrev S1x128x256 : Shape := ⟨3, ![1, 128, 256]⟩
abbrev S1x2048x256 : Shape := ⟨3, ![1, 2048, 256]⟩
abbrev S4x128x128 : Shape := ⟨3, ![4, 128, 128]⟩
abbrev S4x128x1 : Shape := ⟨3, ![4, 128, 1]⟩
abbrev S128x256 : Shape := ⟨2, ![128, 256]⟩
abbrev S128x128 : Shape := ⟨2, ![128, 128]⟩
abbrev S1x128x128 : Shape := ⟨3, ![1, 128, 128]⟩
abbrev S1x256x128 : Shape := ⟨3, ![1, 256, 128]⟩
abbrev S256x128 : Shape := ⟨2, ![256, 128]⟩
abbrev S1x128x1 : Shape := ⟨3, ![1, 128, 1]⟩
abbrev S128x1 : Shape := ⟨2, ![128, 1]⟩
abbrev S128 : Shape := ⟨1, ![128]⟩

abbrev nBuf : Space → Nat
  | .hbm => 16
  | .vmem => 11
  | .smem => 0
  | _ => 0

abbrev bufTy : (tb : Table) → Fin (tcTables nBuf tb) → BufTy
  | .hbm, ⟨0, _⟩ => ⟨S16x2048x256, .bf16⟩
  | .hbm, ⟨1, _⟩ => ⟨S16x2048x256, .bf16⟩
  | .hbm, ⟨2, _⟩ => ⟨S16x2048x256, .bf16⟩
  | .hbm, ⟨3, _⟩ => ⟨S_, .f32⟩
  | .hbm, ⟨4, _⟩ => ⟨S256x256, .f32⟩
  | .hbm, ⟨5, _⟩ => ⟨S256x256, .i32⟩
  | .hbm, ⟨6, _⟩ => ⟨S_, .i32⟩
  | .hbm, ⟨7, _⟩ => ⟨S256x256, .i32⟩
  | .hbm, ⟨8, _⟩ => ⟨S256x256, .i32⟩
  | .hbm, ⟨9, _⟩ => ⟨S256x256, .i32⟩
  | .hbm, ⟨10, _⟩ => ⟨S256x256, .i1⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .bf16⟩
  | .hbm, ⟨15, _⟩ => ⟨S16x2048x256, .f32⟩
  | .local _ .vmem, ⟨0, _⟩ => ⟨S1x128x256, .bf16⟩
  | .local _ .vmem, ⟨1, _⟩ => ⟨S1x128x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S256x256, .bf16⟩
  | .local _ .vmem, ⟨7, _⟩ => ⟨S1x128x256, .f32⟩
  | .local _ .vmem, ⟨8, _⟩ => ⟨S1x128x256, .f32⟩
  | .local _ .vmem, ⟨9, _⟩ => ⟨S4x128x128, .f32⟩
  | .local _ .vmem, ⟨10, _⟩ => ⟨S4x128x1, .f32⟩
  | _, _ => ⟨S16x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_cst : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 16], ![false, false]⟩

@[reducible] def k0_t1_loop (i : grid0.Coords) : Scf.Loop 32 :=
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v38 : BitVec 32 := Scalar.subi v20 c0_i32_16
  let c1_i32_17 : BitVec 32 := 1#32
  let v40 : BitVec 32 := Scalar.divsi v38 c1_i32_17
  let v41 : BitVec 32 := Scalar.muli v40 c1_i32_17
  let v42 : BitVec 32 := Scalar.addi c0_i32_16 v41
  let c1_i32_18 : BitVec 32 := 1#32
  ⟨c0_i32_16, v42, c1_i32_18⟩
def k0_mult1 (i : grid0.Coords) (k0_t1 : Fin (k0_t1_loop i).trips) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_34 : BitVec 32 := 1#32
  let v59 : BitVec 32 := Scalar.subi v20 c1_i32_34
  let c0_i32_16 : BitVec 32 := 0#32
  let c1_i32_18 : BitVec 32 := 1#32
  let arg9 : BitVec 32 := Scf.iv c0_i32_16 c1_i32_18 k0_t1
  let v60 : BitVec 32 := Scalar.subi v59 arg9
  let c256_i32_35 : BitVec 32 := 256#32
  let v61 : BitVec 32 := Scalar.muli v60 c256_i32_35
  v61
def k0_off1 (i : grid0.Coords) (k0_t1 : Fin (k0_t1_loop i).trips) : Fin 3 → Nat :=
  let c0_40 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_34 : BitVec 32 := 1#32
  let v59 : BitVec 32 := Scalar.subi v20 c1_i32_34
  let c0_i32_16 : BitVec 32 := 0#32
  let c1_i32_18 : BitVec 32 := 1#32
  let arg9 : BitVec 32 := Scf.iv c0_i32_16 c1_i32_18 k0_t1
  let v60 : BitVec 32 := Scalar.subi v59 arg9
  let c256_i32_35 : BitVec 32 := 256#32
  let v61 : BitVec 32 := Scalar.muli v60 c256_i32_35
  let v62 : BitVec 32 := v61
  let v70 : Index := Scalar.indexCast v62
  let c0_41 : Index := 0#32
  ![0, v70.toNat, 0]
def k0_off2 (i : grid0.Coords) (k0_t1 : Fin (k0_t1_loop i).trips) : Fin 3 → Nat :=
  let c0_111 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_34 : BitVec 32 := 1#32
  let v59 : BitVec 32 := Scalar.subi v20 c1_i32_34
  let c0_i32_16 : BitVec 32 := 0#32
  let c1_i32_18 : BitVec 32 := 1#32
  let arg9 : BitVec 32 := Scf.iv c0_i32_16 c1_i32_18 k0_t1
  let v60 : BitVec 32 := Scalar.subi v59 arg9
  let c256_i32_35 : BitVec 32 := 256#32
  let v61 : BitVec 32 := Scalar.muli v60 c256_i32_35
  let v62 : BitVec 32 := v61
  let v195 : Index := Scalar.indexCast v62
  let c128_112 : Index := 128#32
  ![0, v195.toNat, 128]
@[reducible] def k0_t2_loop (i : grid0.Coords) : Scf.Loop 32 :=
  let c0_i32_16 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v38 : BitVec 32 := Scalar.subi v20 c0_i32_16
  let c1_i32_17 : BitVec 32 := 1#32
  let v40 : BitVec 32 := Scalar.divsi v38 c1_i32_17
  let v41 : BitVec 32 := Scalar.muli v40 c1_i32_17
  let v42 : BitVec 32 := Scalar.addi c0_i32_16 v41
  let v39 : BitVec 32 := Scalar.addi c0_i32_16 v38
  let c1_i32_19 : BitVec 32 := 1#32
  ⟨v42, v39, c1_i32_19⟩
def k0_mult2 (i : grid0.Coords) (k0_t2 : Fin (k0_t2_loop i).trips) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_34 : BitVec 32 := 1#32
  let v59 : BitVec 32 := Scalar.subi v20 c1_i32_34
  let c0_i32_16 : BitVec 32 := 0#32
  let v38 : BitVec 32 := Scalar.subi v20 c0_i32_16
  let c1_i32_17 : BitVec 32 := 1#32
  let v40 : BitVec 32 := Scalar.divsi v38 c1_i32_17
  let v41 : BitVec 32 := Scalar.muli v40 c1_i32_17
  let v42 : BitVec 32 := Scalar.addi c0_i32_16 v41
  let c1_i32_19 : BitVec 32 := 1#32
  let arg9 : BitVec 32 := Scf.iv v42 c1_i32_19 k0_t2
  let v60 : BitVec 32 := Scalar.subi v59 arg9
  let c256_i32_35 : BitVec 32 := 256#32
  let v61 : BitVec 32 := Scalar.muli v60 c256_i32_35
  v61
def k0_off3 (i : grid0.Coords) (k0_t2 : Fin (k0_t2_loop i).trips) : Fin 3 → Nat :=
  let c0_40 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_34 : BitVec 32 := 1#32
  let v59 : BitVec 32 := Scalar.subi v20 c1_i32_34
  let c0_i32_16 : BitVec 32 := 0#32
  let v38 : BitVec 32 := Scalar.subi v20 c0_i32_16
  let c1_i32_17 : BitVec 32 := 1#32
  let v40 : BitVec 32 := Scalar.divsi v38 c1_i32_17
  let v41 : BitVec 32 := Scalar.muli v40 c1_i32_17
  let v42 : BitVec 32 := Scalar.addi c0_i32_16 v41
  let c1_i32_19 : BitVec 32 := 1#32
  let arg9 : BitVec 32 := Scf.iv v42 c1_i32_19 k0_t2
  let v60 : BitVec 32 := Scalar.subi v59 arg9
  let c256_i32_35 : BitVec 32 := 256#32
  let v61 : BitVec 32 := Scalar.muli v60 c256_i32_35
  let v62 : BitVec 32 := v61
  let v70 : Index := Scalar.indexCast v62
  let c0_41 : Index := 0#32
  ![0, v70.toNat, 0]
def k0_off4 (i : grid0.Coords) (k0_t2 : Fin (k0_t2_loop i).trips) : Fin 3 → Nat :=
  let c0_111 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_34 : BitVec 32 := 1#32
  let v59 : BitVec 32 := Scalar.subi v20 c1_i32_34
  let c0_i32_16 : BitVec 32 := 0#32
  let v38 : BitVec 32 := Scalar.subi v20 c0_i32_16
  let c1_i32_17 : BitVec 32 := 1#32
  let v40 : BitVec 32 := Scalar.divsi v38 c1_i32_17
  let v41 : BitVec 32 := Scalar.muli v40 c1_i32_17
  let v42 : BitVec 32 := Scalar.addi c0_i32_16 v41
  let c1_i32_19 : BitVec 32 := 1#32
  let arg9 : BitVec 32 := Scf.iv v42 c1_i32_19 k0_t2
  let v60 : BitVec 32 := Scalar.subi v59 arg9
  let c256_i32_35 : BitVec 32 := 256#32
  let v61 : BitVec 32 := Scalar.muli v60 c256_i32_35
  let v62 : BitVec 32 := v61
  let v195 : Index := Scalar.indexCast v62
  let c128_112 : Index := 128#32
  ![0, v195.toNat, 128]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== StickBreakingRefIdeal.lean ====
abbrev S16x2048x256 : Shape := ⟨3, ![16, 2048, 256]⟩
abbrev S16x2048x4x64 : Shape := ⟨4, ![16, 2048, 4, 64]⟩
abbrev S2048 : Shape := ⟨1, ![2048]⟩
abbrev S16x4x2048x2048 : Shape := ⟨4, ![16, 4, 2048, 2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S16x4x2048x1x2048 : Shape := ⟨5, ![16, 4, 2048, 1, 2048]⟩
abbrev S16x4x2048x2048x2048 : Shape := ⟨5, ![16, 4, 2048, 2048, 2048]⟩
abbrev S16x4x64x2048 : Shape := ⟨4, ![16, 4, 64, 2048]⟩

abbrev nBuf : Space → Nat
  | .hbm => 78
  | .vmem => 0
  | .smem => 0
  | _ => 0

abbrev bufTy : (tb : Table) → Fin (tcTables nBuf tb) → BufTy
  | .hbm, ⟨0, _⟩ => ⟨S16x2048x256, .bf16⟩
  | .hbm, ⟨1, _⟩ => ⟨S16x2048x256, .bf16⟩
  | .hbm, ⟨2, _⟩ => ⟨S16x2048x256, .bf16⟩
  | .hbm, ⟨3, _⟩ => ⟨S16x2048x256, .f32⟩
  | .hbm, ⟨4, _⟩ => ⟨S16x2048x4x64, .f32⟩
  | .hbm, ⟨5, _⟩ => ⟨S16x2048x256, .f32⟩
  | .hbm, ⟨6, _⟩ => ⟨S16x2048x4x64, .f32⟩
  | .hbm, ⟨7, _⟩ => ⟨S16x2048x256, .f32⟩
  | .hbm, ⟨8, _⟩ => ⟨S16x2048x4x64, .f32⟩
  | .hbm, ⟨9, _⟩ => ⟨S2048, .i32⟩
  | .hbm, ⟨10, _⟩ => ⟨S16x4x2048x2048, .f32⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S16x4x2048x2048, .f32⟩
  | .hbm, ⟨17, _⟩ => ⟨S16x4x2048x2048, .f32⟩
  | .hbm, ⟨18, _⟩ => ⟨S_, .f32⟩
  | .hbm, ⟨19, _⟩ => ⟨S16x4x2048x2048, .f32⟩
  | .hbm, ⟨20, _⟩ => ⟨S16x4x2048x2048, .f32⟩
  | .hbm, ⟨21, _⟩ => ⟨S16x4x2048x2048, .f32⟩
  | .hbm, ⟨22, _⟩ => ⟨S16x4x2048x2048, .f32⟩
  | .hbm, ⟨23, _⟩ => ⟨S16x4x2048x2048, .i1⟩
  | .hbm, ⟨24, _⟩ => ⟨S16x4x2048x2048, .f32⟩
  | .hbm, ⟨25, _⟩ => ⟨S16x4x2048x2048, .f32⟩
  | .hbm, ⟨26, _⟩ => ⟨S16x4x2048x2048, .f32⟩
  | .hbm, ⟨27, _⟩ => ⟨S16x4x2048x2048, .f32⟩
  | .hbm, ⟨28, _⟩ => ⟨S16x4x2048x2048, .f32⟩
  | .hbm, ⟨29, _⟩ => ⟨S16x4x2048x2048, .f32⟩
  | .hbm, ⟨30, _⟩ => ⟨S16x4x2048x2048, .f32⟩
  | .hbm, ⟨31, _⟩ => ⟨S16x4x2048x2048, .f32⟩
  | .hbm, ⟨32, _⟩ => ⟨S16x4x2048x2048, .f32⟩
  | .hbm, ⟨33, _⟩ => ⟨S_, .f32⟩
  | .hbm, ⟨34, _⟩ => ⟨S_, .f32⟩
  | .hbm, ⟨35, _⟩ => ⟨S16x4x2048x2048, .i1⟩
  | .hbm, ⟨36, _⟩ => ⟨S16x4x2048x2048, .f32⟩
  | .hbm, ⟨37, _⟩ => ⟨S16x4x2048x2048, .f32⟩
  | .hbm, ⟨38, _⟩ => ⟨S1x2048, .i32⟩
  | .hbm, ⟨39, _⟩ => ⟨S2048x1, .i32⟩
  | .hbm, ⟨40, _⟩ => ⟨S2048x2048, .i32⟩
  | .hbm, ⟨41, _⟩ => ⟨S2048x2048, .i32⟩
  | .hbm, ⟨42, _⟩ => ⟨S2048x2048, .i1⟩
  | .hbm, ⟨43, _⟩ => ⟨S16x4x2048x1x2048, .f32⟩
  | .hbm, ⟨44, _⟩ => ⟨S_, .f32⟩
  | .hbm, ⟨45, _⟩ => ⟨S_, .f32⟩
  | .hbm, ⟨46, _⟩ => ⟨S16x4x2048x2048x2048, .i1⟩
  | .hbm, ⟨47, _⟩ => ⟨S16x4x2048x2048x2048, .f32⟩
  | .hbm, ⟨48, _⟩ => ⟨S16x4x2048x2048x2048, .f32⟩
  | .hbm, ⟨49, _⟩ => ⟨S16x4x2048x2048x2048, .f32⟩
  | .hbm, ⟨50, _⟩ => ⟨S_, .f32⟩
  | .hbm, ⟨51, _⟩ => ⟨S16x4x2048x2048, .f32⟩
  | .hbm, ⟨52, _⟩ => ⟨S16x4x2048x2048, .f32⟩
  | .hbm, ⟨53, _⟩ => ⟨S_, .f32⟩
  | .hbm, ⟨54, _⟩ => ⟨S16x4x2048x2048, .f32⟩
  | .hbm, ⟨55, _⟩ => ⟨S16x4x2048x2048, .f32⟩
  | .hbm, ⟨56, _⟩ => ⟨S16x4x2048x2048, .f32⟩
  | .hbm, ⟨57, _⟩ => ⟨S16x4x2048x2048, .f32⟩
  | .hbm, ⟨58, _⟩ => ⟨S16x4x2048x2048, .i1⟩
  | .hbm, ⟨59, _⟩ => ⟨S16x4x2048x2048, .f32⟩
  | .hbm, ⟨60, _⟩ => ⟨S16x4x2048x2048, .f32⟩
  | .hbm, ⟨61, _⟩ => ⟨S16x4x2048x2048, .f32⟩
  | .hbm, ⟨62, _⟩ => ⟨S16x4x2048x2048, .f32⟩
  | .hbm, ⟨63, _⟩ => ⟨S16x4x2048x2048, .f32⟩
  | .hbm, ⟨64, _⟩ => ⟨S16x4x2048x2048, .f32⟩
  | .hbm, ⟨65, _⟩ => ⟨S16x4x2048x2048, .f32⟩
  | .hbm, ⟨66, _⟩ => ⟨S16x4x2048x2048, .f32⟩
  | .hbm, ⟨67, _⟩ => ⟨S16x4x2048x2048, .f32⟩
  | .hbm, ⟨68, _⟩ => ⟨S16x4x2048x2048, .f32⟩
  | .hbm, ⟨69, _⟩ => ⟨S16x4x2048x2048, .f32⟩
  | .hbm, ⟨70, _⟩ => ⟨S_, .f32⟩
  | .hbm, ⟨71, _⟩ => ⟨S_, .f32⟩
  | .hbm, ⟨72, _⟩ => ⟨S16x4x2048x2048, .i1⟩
  | .hbm, ⟨73, _⟩ => ⟨S16x4x2048x2048, .f32⟩
  | .hbm, ⟨74, _⟩ => ⟨S16x4x2048x2048, .f32⟩
  | .hbm, ⟨75, _⟩ => ⟨S16x4x64x2048, .f32⟩
  | .hbm, ⟨76, _⟩ => ⟨S16x2048x4x64, .f32⟩
  | .hbm, ⟨77, _⟩ => ⟨S16x2048x256, .f32⟩
  | _, _ => ⟨S16x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v14 : Ref sig .tc := ⟨.hbm, 32, rfl⟩
abbrev main_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_0 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_v22 : Ref sig .tc := ⟨.hbm, 49, rfl⟩
abbrev main_cst_1 : Ref sig .tc := ⟨.hbm, 50, rfl⟩
abbrev main_v23 : Ref sig .tc := ⟨.hbm, 51, rfl⟩
abbrev main_call3_v0 : Ref sig .tc := ⟨.hbm, 52, rfl⟩
abbrev main_call3_call0_cst : Ref sig .tc := ⟨.hbm, 53, rfl⟩
abbrev main_call3_call0_v0 : Ref sig .tc := ⟨.hbm, 54, rfl⟩
abbrev main_call3_call0_v1 : Ref sig .tc := ⟨.hbm, 55, rfl⟩
abbrev main_call3_call0_v2 : Ref sig .tc := ⟨.hbm, 56, rfl⟩
abbrev main_call3_call0_v3 : Ref sig .tc := ⟨.hbm, 57, rfl⟩
abbrev main_call3_call0_v4 : Ref sig .tc := ⟨.hbm, 58, rfl⟩
abbrev main_call3_call0_v5 : Ref sig .tc := ⟨.hbm, 59, rfl⟩
abbrev main_call3_call0_v6 : Ref sig .tc := ⟨.hbm, 60, rfl⟩
abbrev main_call3_call0_v7 : Ref sig .tc := ⟨.hbm, 61, rfl⟩
abbrev main_call3_call0_v8 : Ref sig .tc := ⟨.hbm, 62, rfl⟩
abbrev main_call3_call0_v9 : Ref sig .tc := ⟨.hbm, 63, rfl⟩
abbrev main_call3_call0_v10 : Ref sig .tc := ⟨.hbm, 64, rfl⟩
abbrev main_call3_call0_v11 : Ref sig .tc := ⟨.hbm, 65, rfl⟩
abbrev main_call3_v1 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_cst_2 : Ref sig .tc := ⟨.hbm, 70, rfl⟩
abbrev main_call4_v0 : Ref sig .tc := ⟨.hbm, 71, rfl⟩
abbrev main_call4_v1 : Ref sig .tc := ⟨.hbm, 72, rfl⟩
abbrev main_call4_v2 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩

abbrev nD : Nat := 1
abbrev τ : Topo := Topo.v7x

variable {F : FTy → Type} [FloatOps F]
-- ==== InProj.lean ====
abbrev S16x2048x1024 : Shape := ⟨3, ![16, 2048, 1024]⟩
abbrev S1024x2516 : Shape := ⟨2, ![1024, 2516]⟩
abbrev S256 : Shape := ⟨1, ![256]⟩
abbrev S128 : Shape := ⟨1, ![128]⟩
abbrev S256x384 : Shape := ⟨2, ![256, 384]⟩
abbrev S128x512 : Shape := ⟨2, ![128, 512]⟩
abbrev S256x4x96 : Shape := ⟨3, ![256, 4, 96]⟩
abbrev S_ : Shape := ⟨0, ![]⟩
abbrev S256x4x128 : Shape := ⟨3, ![256, 4, 128]⟩
abbrev S256x512 : Shape := ⟨2, ![256, 512]⟩
abbrev S128x4x128 : Shape := ⟨3, ![128, 4, 128]⟩
abbrev S128x4x64 : Shape := ⟨3, ![128, 4, 64]⟩
abbrev S128x256 : Shape := ⟨2, ![128, 256]⟩
abbrev S1024x256 : Shape := ⟨2, ![1024, 256]⟩
abbrev S1024x128 : Shape := ⟨2, ![1024, 128]⟩
abbrev S1024x32 : Shape := ⟨2, ![1024, 32]⟩
abbrev S1024x64 : Shape := ⟨2, ![1024, 64]⟩
abbrev S1024x12 : Shape := ⟨2, ![1024, 12]⟩
abbrev S1024x8 : Shape := ⟨2, ![1024, 8]⟩
abbrev S1024x12x64 : Shape := ⟨3, ![1024, 12, 64]⟩
abbrev S1024x768 : Shape := ⟨2, ![1024, 768]⟩
abbrev S1x1024x1x32 : Shape := ⟨4, ![1, 1024, 1, 32]⟩
abbrev S1x1024x8x32 : Shape := ⟨4, ![1, 1024, 8, 32]⟩
abbrev S1024x120 : Shape := ⟨2, ![1024, 120]⟩
abbrev S1024x2304 : Shape := ⟨2, ![1024, 2304]⟩
abbrev S1024x1408 : Shape := ⟨2, ![1024, 1408]⟩
abbrev S1024x3712 : Shape := ⟨2, ![1024, 3712]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S16 : Shape := ⟨1, ![16]⟩
abbrev S1x16 : Shape := ⟨2, ![1, 16]⟩
abbrev S2048x16 : Shape := ⟨2, ![2048, 16]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S1x2048x1x16 : Shape := ⟨4, ![1, 2048, 1, 16]⟩
abbrev S1x2048x8x16 : Shape := ⟨4, ![1, 2048, 8, 16]⟩
abbrev S1x2048x128 : Shape := ⟨3, ![1, 2048, 128]⟩
abbrev S8x2048x128 : Shape := ⟨3, ![8, 2048, 128]⟩
abbrev S1x256 : Shape := ⟨2, ![1, 256]⟩
abbrev S1x128 : Shape := ⟨2, ![1, 128]⟩
abbrev S16x2048x512 : Shape := ⟨3, ![16, 2048, 512]⟩
abbrev S16x2048x256 : Shape := ⟨3, ![16, 2048, 256]⟩
abbrev S16x4x2048x128 : Shape := ⟨4, ![16, 4, 2048, 128]⟩
abbrev S16x2048x128 : Shape := ⟨3, ![16, 2048, 128]⟩
abbrev S16x2048x768 : Shape := ⟨3, ![16, 2048, 768]⟩
abbrev S1x256x1024 : Shape := ⟨3, ![1, 256, 1024]⟩
abbrev S8x256x128 : Shape := ⟨3, ![8, 256, 128]⟩
abbrev S1x256x512 : Shape := ⟨3, ![1, 256, 512]⟩
abbrev S1x256x256 : Shape := ⟨3, ![1, 256, 256]⟩
abbrev S1x4x256x128 : Shape := ⟨4, ![1, 4, 256, 128]⟩
abbrev S1x256x128 : Shape := ⟨3, ![1, 256, 128]⟩
abbrev S1x256x768 : Shape := ⟨3, ![1, 256, 768]⟩
abbrev S256x1024 : Shape := ⟨2, ![256, 1024]⟩
abbrev S256x128 : Shape := ⟨2, ![256, 128]⟩
abbrev S256x256 : Shape := ⟨2, ![256, 256]⟩
abbrev S256x1 : Shape := ⟨2, ![256, 1]⟩
abbrev S1x1x256x128 : Shape := ⟨4, ![1, 1, 256, 128]⟩

abbrev nBuf : Space → Nat
  | .hbm => 162
  | .vmem => 42
  | .smem => 0
  | _ => 0

abbrev hbmTy0_0 (i : Nat) : BufTy := match i % 128 with
  | 0 => ⟨S16x2048x1024, .f32⟩
  | 1 => ⟨S1024x2516, .f32⟩
  | 2 => ⟨S256, .f32⟩
  | 3 => ⟨S128, .f32⟩
  | 4 => ⟨S256x384, .f32⟩
  | 5 => ⟨S128x512, .f32⟩
  | 6 => ⟨S256x4x96, .f32⟩
  | 7 => ⟨S_, .i32⟩
  | 8 => ⟨S_, .f32⟩
  | 9 => ⟨S256x4x128, .f32⟩
  | 10 => ⟨S256x512, .f32⟩
  | 11 => ⟨S128x4x128, .f32⟩
  | 12 => ⟨S128x4x64, .f32⟩
  | 13 => ⟨S_, .i32⟩
  | 14 => ⟨S_, .f32⟩
  | 15 => ⟨S128x4x128, .f32⟩
  | 16 => ⟨S128x512, .f32⟩
  | 17 => ⟨S128x4x64, .f32⟩
  | 18 => ⟨S128x256, .f32⟩
  | 19 => ⟨S256x512, .bf16⟩
  | 20 => ⟨S128x512, .bf16⟩
  | 21 => ⟨S128x256, .bf16⟩
  | 22 => ⟨S1024x256, .f32⟩
  | 23 => ⟨S1024x128, .f32⟩
  | 24 => ⟨S1024x32, .f32⟩
  | 25 => ⟨S1024x256, .f32⟩
  | 26 => ⟨S1024x64, .f32⟩
  | 27 => ⟨S1024x64, .f32⟩
  | 28 => ⟨S1024x64, .f32⟩
  | 29 => ⟨S1024x64, .f32⟩
  | 30 => ⟨S1024x64, .f32⟩
  | 31 => ⟨S1024x64, .f32⟩
  | 32 => ⟨S1024x12, .f32⟩
  | 33 => ⟨S1024x256, .f32⟩
  | 34 => ⟨S1024x64, .f32⟩
  | 35 => ⟨S1024x64, .f32⟩
  | 36 => ⟨S1024x256, .f32⟩
  | 37 => ⟨S1024x32, .f32⟩
  | 38 => ⟨S1024x8, .f32⟩
  | 39 => ⟨S1024x256, .f32⟩
  | 40 => ⟨S1024x256, .f32⟩
  | 41 => ⟨S1024x256, .f32⟩
  | 42 => ⟨S_, .f32⟩
  | 43 => ⟨S1024x64, .f32⟩
  | 44 => ⟨S_, .f32⟩
  | 45 => ⟨S1024x32, .f32⟩
  | 46 => ⟨S1024x12x64, .f32⟩
  | 47 => ⟨S1024x768, .f32⟩
  | 48 => ⟨S1x1024x1x32, .f32⟩
  | 49 => ⟨S1x1024x8x32, .f32⟩
  | 50 => ⟨S1024x256, .f32⟩
  | 51 => ⟨S_, .f32⟩
  | 52 => ⟨S1024x120, .f32⟩
  | 53 => ⟨S1024x2304, .f32⟩
  | 54 => ⟨S1024x1408, .f32⟩
  | 55 => ⟨S1024x3712, .f32⟩
  | 56 => ⟨S1024x3712, .bf16⟩
  | 57 => ⟨S32, .f32⟩
  | 58 => ⟨S_, .f32⟩
  | 59 => ⟨S32, .f32⟩
  | 60 => ⟨S32, .f32⟩
  | 61 => ⟨S_, .f32⟩
  | 62 => ⟨S32, .f32⟩
  | 63 => ⟨S32, .f32⟩
  | 64 => ⟨S32, .f32⟩
  | 65 => ⟨S_, .f32⟩
  | 66 => ⟨S32, .f32⟩
  | 67 => ⟨S32, .f32⟩
  | 68 => ⟨S_, .f32⟩
  | 69 => ⟨S32, .f32⟩
  | 70 => ⟨S32, .f32⟩
  | 71 => ⟨S2048, .f32⟩
  | 72 => ⟨S2048x1, .f32⟩
  | 73 => ⟨S1x32, .f32⟩
  | 74 => ⟨S2048x32, .f32⟩
  | 75 => ⟨S2048x32, .f32⟩
  | 76 => ⟨S2048x32, .f32⟩
  | 77 => ⟨S2048x32, .f32⟩
  | 78 => ⟨S2048x32, .f32⟩
  | 79 => ⟨S16, .f32⟩
  | 80 => ⟨S_, .f32⟩
  | 81 => ⟨S16, .f32⟩
  | 82 => ⟨S16, .f32⟩
  | 83 => ⟨S_, .f32⟩
  | 84 => ⟨S16, .f32⟩
  | 85 => ⟨S16, .f32⟩
  | 86 => ⟨S16, .f32⟩
  | 87 => ⟨S_, .f32⟩
  | 88 => ⟨S16, .f32⟩
  | 89 => ⟨S16, .f32⟩
  | 90 => ⟨S_, .f32⟩
  | 91 => ⟨S16, .f32⟩
  | 92 => ⟨S16, .f32⟩
  | 93 => ⟨S2048, .f32⟩
  | 94 => ⟨S2048x1, .f32⟩
  | 95 => ⟨S1x16, .f32⟩
  | 96 => ⟨S2048x16, .f32⟩
  | 97 => ⟨S2048x16, .f32⟩
  | 98 => ⟨S2048x16, .f32⟩
  | 99 => ⟨S2048x16, .f32⟩
  | 100 => ⟨S2048x16, .f32⟩
  | 101 => ⟨S1x2048x1x32, .f32⟩
  | 102 => ⟨S1x2048x4x32, .f32⟩
  | 103 => ⟨S2048x128, .f32⟩
  | 104 => ⟨S2048x32, .f32⟩
  | 105 => ⟨S2048x64, .f32⟩
  | 106 => ⟨S1x2048x1x64, .f32⟩
  | 107 => ⟨S1x2048x2x64, .f32⟩
  | 108 => ⟨S2048x128, .f32⟩
  | 109 => ⟨S_, .f32⟩
  | 110 => ⟨S2048x64, .f32⟩
  | 111 => ⟨S2048x128, .f32⟩
  | 112 => ⟨S2048x32, .f32⟩
  | 113 => ⟨S_, .f32⟩
  | 114 => ⟨S2048x64, .f32⟩
  | 115 => ⟨S2048x128, .f32⟩
  | 116 => ⟨S1x2048x1x16, .f32⟩
  | 117 => ⟨S1x2048x8x16, .f32⟩
  | 118 => ⟨S2048x128, .f32⟩
  | 119 => ⟨S2048x16, .f32⟩
  | 120 => ⟨S2048x32, .f32⟩
  | 121 => ⟨S1x2048x1x32, .f32⟩
  | 122 => ⟨S1x2048x4x32, .f32⟩
  | 123 => ⟨S2048x128, .f32⟩
  | 124 => ⟨S_, .f32⟩
  | 125 => ⟨S2048x64, .f32⟩
  | 126 => ⟨S_, .f32⟩
  | 127 => ⟨S2048x32, .f32⟩
  | _ => ⟨S16x2048x1024, .f32⟩

abbrev hbmTy0_1 (i : Nat) : BufTy := match i % 128 with
  | 0 => ⟨S2048x128, .f32⟩
  | 1 => ⟨S_, .f32⟩
  | 2 => ⟨S2048x64, .f32⟩
  | 3 => ⟨S2048x16, .f32⟩
  | 4 => ⟨S_, .f32⟩
  | 5 => ⟨S2048x32, .f32⟩
  | 6 => ⟨S2048x128, .f32⟩
  | 7 => ⟨S1x2048x128, .f32⟩
  | 8 => ⟨S1x2048x128, .f32⟩
  | 9 => ⟨S1x2048x128, .f32⟩
  | 10 => ⟨S1x2048x128, .f32⟩
  | 11 => ⟨S1x2048x128, .f32⟩
  | 12 => ⟨S1x2048x128, .f32⟩
  | 13 => ⟨S1x2048x128, .f32⟩
  | 14 => ⟨S1x2048x128, .f32⟩
  | 15 => ⟨S8x2048x128, .f32⟩
  | 16 => ⟨S1x256, .f32⟩
  | 17 => ⟨S1x128, .f32⟩
  | 18 => ⟨S16x2048x512, .bf16⟩
  | 19 => ⟨S16x2048x512, .bf16⟩
  | 20 => ⟨S16x2048x256, .bf16⟩
  | 21 => ⟨S16x4x2048x128, .bf16⟩
  | 22 => ⟨S16x2048x128, .f32⟩
  | 23 => ⟨S16x2048x128, .bf16⟩
  | 24 => ⟨S16x2048x128, .bf16⟩
  | 25 => ⟨S16x2048x768, .f32⟩
  | 26 => ⟨S16x4x2048x128, .bf16⟩
  | 27 => ⟨S16x2048x128, .bf16⟩
  | 28 => ⟨S16x2048x256, .bf16⟩
  | 29 => ⟨S16x2048x256, .bf16⟩
  | 30 => ⟨S16x2048x128, .f32⟩
  | 31 => ⟨S16x2048x256, .bf16⟩
  | 32 => ⟨S16x2048x256, .bf16⟩
  | 33 => ⟨S16x2048x256, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1024x3712, .bf16⟩
  | .local _ .vmem, ⟨3, _⟩ => ⟨S8x256x128, .f32⟩
  | .local _ .vmem, ⟨4, _⟩ => ⟨S8x256x128, .f32⟩
  | .local _ .vmem, ⟨5, _⟩ => ⟨S1x256, .f32⟩
  | .local _ .vmem, ⟨6, _⟩ => ⟨S256x512, .bf16⟩
  | .local _ .vmem, ⟨7, _⟩ => ⟨S1x128, .f32⟩
  | .local _ .vmem, ⟨8, _⟩ => ⟨S128x512, .bf16⟩
  | .local _ .vmem, ⟨9, _⟩ => ⟨S128x256, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x256, .bf16⟩
  | .local _ .vmem, ⟨15, _⟩ => ⟨S1x256x256, .bf16⟩
  | .local _ .vmem, ⟨16, _⟩ => ⟨S1x4x256x128, .bf16⟩
  | .local _ .vmem, ⟨17, _⟩ => ⟨S1x4x256x128, .bf16⟩
  | .local _ .vmem, ⟨18, _⟩ => ⟨S1x256x128, .f32⟩
  | .local _ .vmem, ⟨19, _⟩ => ⟨S1x256x128, .f32⟩
  | .local _ .vmem, ⟨20, _⟩ => ⟨S1x256x128, .bf16⟩
  | .local _ .vmem, ⟨21, _⟩ => ⟨S1x256x128, .bf16⟩
  | .local _ .vmem, ⟨22, _⟩ => ⟨S1x256x128, .bf16⟩
  | .local _ .vmem, ⟨23, _⟩ => ⟨S1x256x128, .bf16⟩
  | .local _ .vmem, ⟨24, _⟩ => ⟨S1x256x768, .f32⟩
  | .local _ .vmem, ⟨25, _⟩ => ⟨S1x256x768, .f32⟩
  | .local _ .vmem, ⟨26, _⟩ => ⟨S1x4x256x128, .bf16⟩
  | .local _ .vmem, ⟨27, _⟩ => ⟨S1x4x256x128, .bf16⟩
  | .local _ .vmem, ⟨28, _⟩ => ⟨S1x256x128, .bf16⟩
  | .local _ .vmem, ⟨29, _⟩ => ⟨S1x256x128, .bf16⟩
  | .local _ .vmem, ⟨30, _⟩ => ⟨S1x256x256, .bf16⟩
  | .local _ .vmem, ⟨31, _⟩ => ⟨S1x256x256, .bf16⟩
  | .local _ .vmem, ⟨32, _⟩ => ⟨S1x256x256, .bf16⟩
  | .local _ .vmem, ⟨33, _⟩ => ⟨S1x256x256, .bf16⟩
  | .local _ .vmem, ⟨34, _⟩ => ⟨S1x256x128, .f32⟩
  | .local _ .vmem, ⟨35, _⟩ => ⟨S1x256x128, .f32⟩
  | .local _ .vmem, ⟨36, _⟩ => ⟨S1x256x256, .bf16⟩
  | .local _ .vmem, ⟨37, _⟩ => ⟨S1x256x256, .bf16⟩
  | .local _ .vmem, ⟨38, _⟩ => ⟨S1x256x256, .bf16⟩
  | .local _ .vmem, ⟨39, _⟩ => ⟨S1x256x256, .bf16⟩
  | .local _ .vmem, ⟨40, _⟩ => ⟨S1x256x256, .bf16⟩
  | .local _ .vmem, ⟨41, _⟩ => ⟨S1x256x256, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst : Ref sig .tc := ⟨.hbm, 42, rfl⟩
abbrev main_v32 : Ref sig .tc := ⟨.hbm, 43, rfl⟩
abbrev main_cst_1 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_2 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_cst_4 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_7 : Ref sig .tc := ⟨.hbm, 80, rfl⟩
abbrev main_v63 : Ref sig .tc := ⟨.hbm, 81, rfl⟩
abbrev main_v64 : Ref sig .tc := ⟨.hbm, 82, rfl⟩
abbrev main_cst_8 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_9 : Ref sig .tc := ⟨.hbm, 87, rfl⟩
abbrev main_v68 : Ref sig .tc := ⟨.hbm, 88, rfl⟩
abbrev main_v69 : Ref sig .tc := ⟨.hbm, 89, rfl⟩
abbrev main_cst_10 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_cst_11 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_12 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_13 : Ref sig .tc := ⟨.hbm, 124, rfl⟩
abbrev main_v101 : Ref sig .tc := ⟨.hbm, 125, rfl⟩
abbrev main_cst_14 : Ref sig .tc := ⟨.hbm, 126, rfl⟩
abbrev main_v102 : Ref sig .tc := ⟨.hbm, 127, rfl⟩
abbrev main_v103 : Ref sig .tc := ⟨.hbm, 128, rfl⟩
abbrev main_cst_15 : Ref sig .tc := ⟨.hbm, 129, rfl⟩
abbrev main_v104 : Ref sig .tc := ⟨.hbm, 130, rfl⟩
abbrev main_v105 : Ref sig .tc := ⟨.hbm, 131, rfl⟩
abbrev main_cst_16 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119_0 : Ref sig .tc := ⟨.hbm, 146, rfl⟩
abbrev main_v119_1 : Ref sig .tc := ⟨.hbm, 147, rfl⟩
abbrev main_v119_2 : Ref sig .tc := ⟨.hbm, 148, rfl⟩
abbrev main_v119_3 : Ref sig .tc := ⟨.hbm, 149, rfl⟩
abbrev main_v119_4 : Ref sig .tc := ⟨.hbm, 150, rfl⟩
abbrev main_v119_5 : Ref sig .tc := ⟨.hbm, 151, rfl⟩
abbrev main_v119_6 : Ref sig .tc := ⟨.hbm, 152, rfl⟩
abbrev main_v119_7 : Ref sig .tc := ⟨.hbm, 153, rfl⟩
abbrev main_v119_8 : Ref sig .tc := ⟨.hbm, 154, rfl⟩
abbrev main_v119_9 : Ref sig .tc := ⟨.hbm, 155, rfl⟩
abbrev main_v119_10 : Ref sig .tc := ⟨.hbm, 156, rfl⟩
abbrev main_v119_11 : Ref sig .tc := ⟨.hbm, 157, rfl⟩
abbrev main_v119_12 : Ref sig .tc := ⟨.hbm, 158, rfl⟩
abbrev main_v119_13 : Ref sig .tc := ⟨.hbm, 159, rfl⟩
abbrev main_v119_14 : Ref sig .tc := ⟨.hbm, 160, rfl⟩
abbrev main_v119_15 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem23_1 : DmaSem sig := 41

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3712 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x768 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x4x256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x256x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== InProjRefIdeal.lean ====
abbrev S16x2048x1024 : Shape := ⟨3, ![16, 2048, 1024]⟩
abbrev S1024x2516 : Shape := ⟨2, ![1024, 2516]⟩
abbrev S256 : Shape := ⟨1, ![256]⟩
abbrev S128 : Shape := ⟨1, ![128]⟩
abbrev S256x384 : Shape := ⟨2, ![256, 384]⟩
abbrev S128x512 : Shape := ⟨2, ![128, 512]⟩
abbrev S16x2048x2516 : Shape := ⟨3, ![16, 2048, 2516]⟩
abbrev S16x2048x256 : Shape := ⟨3, ![16, 2048, 256]⟩
abbrev S16x2048x128 : Shape := ⟨3, ![16, 2048, 128]⟩
abbrev S16x2048x32 : Shape := ⟨3, ![16, 2048, 32]⟩
abbrev S16x2048x64 : Shape := ⟨3, ![16, 2048, 64]⟩
abbrev S16x2048x12 : Shape := ⟨3, ![16, 2048, 12]⟩
abbrev S16x2048x8 : Shape := ⟨3, ![16, 2048, 8]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x2516, .f32⟩
  | .hbm, ⟨2, _⟩ => ⟨S256, .f32⟩
  | .hbm, ⟨3, _⟩ => ⟨S128, .f32⟩
  | .hbm, ⟨4, _⟩ => ⟨S256x384, .f32⟩
  | .hbm, ⟨5, _⟩ => ⟨S128x512, .f32⟩
  | .hbm, ⟨6, _⟩ => ⟨S16x2048x2516, .f32⟩
  | .hbm, ⟨7, _⟩ => ⟨S16x2048x256, .f32⟩
  | .hbm, ⟨8, _⟩ => ⟨S16x2048x128, .f32⟩
  | .hbm, ⟨9, _⟩ => ⟨S16x2048x32, .f32⟩
  | .hbm, ⟨10, _⟩ => ⟨S16x2048x256, .f32⟩
  | .hbm, ⟨11, _⟩ => ⟨S16x2048x64, .f32⟩
  | .hbm, ⟨12, _⟩ => ⟨S16x2048x64, .f32⟩
  | .hbm, ⟨13, _⟩ => ⟨S16x2048x64, .f32⟩
  | .hbm, ⟨14, _⟩ => ⟨S16x2048x64, .f32⟩
  | .hbm, ⟨15, _⟩ => ⟨S16x2048x64, .f32⟩
  | .hbm, ⟨16, _⟩ => ⟨S16x2048x64, .f32⟩
  | .hbm, ⟨17, _⟩ => ⟨S16x2048x12, .f32⟩
  | .hbm, ⟨18, _⟩ => ⟨S16x2048x256, .f32⟩
  | .hbm, ⟨19, _⟩ => ⟨S16x2048x64, .f32⟩
  | .hbm, ⟨20, _⟩ => ⟨S16x2048x64, .f32⟩
  | .hbm, ⟨21, _⟩ => ⟨S16x2048x256, .f32⟩
  | .hbm, ⟨22, _⟩ => ⟨S16x2048x32, .f32⟩
  | .hbm, ⟨23, _⟩ => ⟨S16x2048x8, .f32⟩
  | .hbm, ⟨24, _⟩ => ⟨S16x2048x256, .f32⟩
  | .hbm, ⟨25, _⟩ => ⟨S16x2048x256, .f32⟩
  | .hbm, ⟨26, _⟩ => ⟨S16x2048x256, .f32⟩
  | .hbm, ⟨27, _⟩ => ⟨S_, .f32⟩
  | .hbm, ⟨28, _⟩ => ⟨S16x2048x256, .f32⟩
  | .hbm, ⟨29, _⟩ => ⟨S16x2048x256, .f32⟩
  | .hbm, ⟨30, _⟩ => ⟨S16x2048x256, .bf16⟩
  | .hbm, ⟨31, _⟩ => ⟨S16x2048x256, .bf16⟩
  | .hbm, ⟨32, _⟩ => ⟨S16x2048x256, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Proof.HeadBuffer.lean ====
/- Buffers with a leading axis of heads: a load of a box of such a buffer, and what is read after one head's plane is stored. -/
module
public import Idealize.ShloMosaic.Lib.Pointwise
public import Idealize.ShloMosaic.Lib.ValueIdx
public import Idealize.ShloMosaic.Lib.WritesUnit
@[expose] public section
noncomputable section
namespace Cert.HeadBuffer
open Idealize.ShloMosaic Idealize.SL.Sem

variable {sig : RefSig} {κ : Kind} {sp : Space} {e : EltTy} {Val : EltTy → Type} {n0 n1 n2 m0 m1 m2 : ℕ}
  (v : View sig κ sp (⟨3, ![n0, n1, n2]⟩ : Shape) e) (f : v.ty.Contents Val)

/-- A load of a box reads the entry as far from the box's corner. -/
theorem readAt_box (o0 o1 o2 : ℕ) (inb : ∀ a, (![o0, o1, o2] : Fin 3 → ℕ) a + (![m0, m1, m2] : Fin 3 → ℕ) a ≤ (![n0, n1, n2] : Fin 3 → ℕ) a)
    (a : Fin m0) (b : Fin m1) (d : Fin m2) :
    v.readAt Val (Rect.unit (s := (⟨3, ![n0, n1, n2]⟩ : Shape)) ![o0, o1, o2] ![m0, m1, m2] inb).toLoadRect f (ix3 a b d)
      = v.read Val f (ix3 ⟨o0 + a.val, by have := inb 0; have := a.isLt; simp at *; omega⟩
          ⟨o1 + b.val, by have := inb 1; have := b.isLt; simp at *; omega⟩
          ⟨o2 + d.val, by have := inb 2; have := d.isLt; simp at *; omega⟩) := by
  refine congrArg (v.read Val f) (funext fun x => Fin.ext ?_)
  fin_cases x <;> (show _ + 1 * _ = _; rw [one_mul]; rfl)

/-- After a store of one head's whole plane: that head reads the plane, any other head what was there before. -/
theorem read_store_head (o : ℕ) (inb : ∀ a, (![o, 0, 0] : Fin 3 → ℕ) a + (![1, n1, n2] : Fin 3 → ℕ) a ≤ (![n0, n1, n2] : Fin 3 → ℕ) a)
    (w : (⟨3, ![1, n1, n2]⟩ : Shape).Idx → Val e) (L : List (View.Piece Val (⟨3, ![n0, n1, n2]⟩ : Shape) e))
    (h : Fin n0) (r : Fin n1) (l : Fin n2) :
    v.read Val (v.writes Val f ((⟨Rect.unit (s := (⟨3, ![n0, n1, n2]⟩ : Shape)) ![o, 0, 0] ![1, n1, n2] inb, w⟩ : View.Piece Val _ e) :: L)) (ix3 h r l)
      = if h.val = o then w (ix3 0 r l) else v.read Val (v.writes Val f L) (ix3 h r l) := by
  by_cases hh : h.val = o
  · rw [if_pos hh]
    refine View.read_writes_cons_unit_of_mem v f inb w L (ix3 h r l) (ix3 0 r l) rfl fun x => ?_
    fin_cases x
    · show h.val = o + 0; omega
    · show r.val = 0 + r.val; omega
    · show l.val = 0 + l.val; omega
  · rw [if_neg hh]
    refine View.read_writes_cons_unit_of_not_mem v f inb w L (ix3 h r l) rfl 0 ?_
    show h.val < o ∨ o + 1 ≤ h.val
    omega
end Cert.HeadBuffer
end
-- ==== Proof.OnlineSoftmax.lean ====
/- A softmax taken over a growing run of keys: its running greatest score, its denominator and its weighted sum,
   how a further block of keys changes the three, and the quotient at the end. Scores may be −∞ (a key that is hidden). -/
module
public import Idealize.ShloMosaic.Lib.Pointwise
public import Idealize.ShloMosaic.Lib.ValueIdx
@[expose] public section
noncomputable section
namespace Cert.OnlineSoftmax
open Idealize.ShloMosaic

/-- The greatest of the first `n` scores (−∞ of none). -/
def top (s : ℕ → EReal) (n : ℕ) : EReal := (Finset.range n).sup s

/-- The sum of the first `n` exponentials, each taken relative to their greatest score. -/
def den (s : ℕ → EReal) (n : ℕ) : EReal := ∑ j ∈ Finset.range n, Ideal.exp (s j - top s n)

/-- The sum of the first `n` values weighted by those exponentials. -/
def num (s v : ℕ → EReal) (n : ℕ) : EReal := ∑ j ∈ Finset.range n, Ideal.exp (s j - top s n) * v j

theorem exp_nonneg (x : EReal) : 0 ≤ Ideal.exp x := by
  induction x with
  | bot => simp
  | top => simp
  | coe r => rw [Ideal.exp_coe]; exact_mod_cast (Real.exp_pos r).le

/-- The exponential of a difference that is not positive is at most 1. -/
theorem exp_sub_le_one {a b : EReal} (h : a ≤ b) : Ideal.exp (a - b) ≤ 1 := by
  induction b with
  | bot => obtain rfl : a = ⊥ := le_bot_iff.mp h; simp
  | top => rw [EReal.sub_top]; simp
  | coe y =>
    induction a with
    | bot => rw [EReal.bot_sub]; simp
    | top => exact absurd h (by simp)
    | coe x =>
      rw [← EReal.coe_sub, Ideal.exp_coe]
      have h' : x ≤ y := by exact_mod_cast h
      exact_mod_cast Real.exp_le_one_iff.mpr (by linarith)

theorem exp_sub_ne_top {a b : EReal} (h : a ≤ b) : Ideal.exp (a - b) ≠ ⊤ :=
  ne_of_lt (lt_of_le_of_lt (exp_sub_le_one h) (by exact_mod_cast EReal.coe_lt_top 1))

/-- An exponential relative to one bound, rescaled to a greater bound. -/
theorem exp_rescale {a m m' : EReal} (h : a ≤ m) (h' : m ≤ m') :
    Ideal.exp (m - m') * Ideal.exp (a - m) = Ideal.exp (a - m') := by
  induction m' with
  | bot => obtain rfl : m = ⊥ := le_bot_iff.mp h'; obtain rfl : a = ⊥ := le_bot_iff.mp h; simp
  | top => simp [EReal.sub_top]
  | coe z =>
    induction m with
    | bot => obtain rfl : a = ⊥ := le_bot_iff.mp h; simp
    | top => exact absurd h' (by simp)
    | coe y =>
      induction a with
      | bot => simp
      | top => exact absurd h (by simp)
      | coe x =>
        rw [← EReal.coe_sub, ← EReal.coe_sub, ← EReal.coe_sub, Ideal.exp_coe, Ideal.exp_coe, Ideal.exp_coe, ← EReal.coe_mul,
          ← Real.exp_add]
        congr 2
        ring

/-- A factor that is real and not negative goes into a sum. -/
theorem mul_sum {ι : Type*} (c : EReal) (h0 : 0 ≤ c) (h1 : c ≠ ⊤) (t : Finset ι) (f : ι → EReal) :
    c * ∑ j ∈ t, f j = ∑ j ∈ t, c * f j := by
  classical
  induction t using Finset.induction_on with
  | empty => simp
  | insert a t ha ih => rw [Finset.sum_insert ha, Finset.sum_insert ha, EReal.left_distrib_of_nonneg_of_ne_top h0 h1, ih]

theorem le_top (s : ℕ → EReal) {j n : ℕ} (h : j < n) : s j ≤ top s n := Finset.le_sup (Finset.mem_range.mpr h)

theorem top_le (s : ℕ → EReal) (n b : ℕ) : top s n ≤ top s (n + b) :=
  Finset.sup_mono (Finset.range_mono (Nat.le_add_right n b))

/-- The greatest score after a further block of keys. -/
theorem top_add (s : ℕ → EReal) (n b : ℕ) :
    top s (n + b) = max (top s n) (Finset.univ.fold max ⊥ fun j : Fin b => s (n + j.val)) := by
  apply le_antisymm
  · refine Finset.sup_le fun j hj => ?_
    have hj' := Finset.mem_range.mp hj
    by_cases h : j < n
    · exact le_max_of_le_left (le_top s h)
    · refine le_max_of_le_right (le_trans (le_of_eq ?_) (Finset.le_sup (f := fun j : Fin b => s (n + j.val))
        (Finset.mem_univ (⟨j - n, by omega⟩ : Fin b))))
      exact congrArg s (by show j = n + (j - n); omega)
  · refine max_le (top_le s n b) (Finset.sup_le (f := fun j : Fin b => s (n + j.val)) fun j _ => le_top s (by omega))

theorem num_add (s v : ℕ → EReal) (n b : ℕ) : num s v (n + b)
    = Ideal.exp (top s n - top s (n + b)) * num s v n
      + ∑ j : Fin b, Ideal.exp (s (n + j.val) - top s (n + b)) * v (n + j.val) := by
  unfold num
  rw [Finset.sum_range_add, mul_sum _ (exp_nonneg _) (exp_sub_ne_top (top_le s n b)), Finset.sum_range (n := b)]
  refine congrArg₂ (· + ·) (Finset.sum_congr rfl fun j hj => ?_) rfl
  rw [← mul_assoc, exp_rescale (le_top s (Finset.mem_range.mp hj)) (top_le s n b)]

theorem den_eq_num (s : ℕ → EReal) (n : ℕ) : den s n = num s (fun _ => 1) n := by
  unfold den num
  exact Finset.sum_congr rfl fun j _ => (mul_one _).symm

theorem den_add (s : ℕ → EReal) (n b : ℕ) : den s (n + b)
    = Ideal.exp (top s n - top s (n + b)) * den s n + ∑ j : Fin b, Ideal.exp (s (n + j.val) - top s (n + b)) := by
  rw [den_eq_num, den_eq_num, num_add]
  simp only [mul_one]

/-- Keys that are all hidden change nothing. -/
theorem top_hidden (s : ℕ → EReal) (n b : ℕ) (h : ∀ j, n ≤ j → j < n + b → s j = ⊥) : top s (n + b) = top s n := by
  refine le_antisymm (Finset.sup_le fun j hj => ?_) (top_le s n b)
  by_cases hn : j < n
  · exact le_top s hn
  · rw [h j (by omega) (Finset.mem_range.mp hj)]; exact bot_le

theorem num_hidden (s v : ℕ → EReal) (n b : ℕ) (h : ∀ j, n ≤ j → j < n + b → s j = ⊥) :
    num s v (n + b) = num s v n := by
  unfold num
  rw [top_hidden s n b h, Finset.sum_range_add, Finset.sum_eq_zero (s := Finset.range b), add_zero]
  intro j hj
  have := Finset.mem_range.mp hj
  rw [h (n + j) (by omega) (by omega), EReal.bot_sub, Ideal.exp_bot, zero_mul]

theorem den_hidden (s : ℕ → EReal) (n b : ℕ) (h : ∀ j, n ≤ j → j < n + b → s j = ⊥) : den s (n + b) = den s n := by
  rw [den_eq_num, den_eq_num, num_hidden s _ n b h]

theorem den_nonneg (s : ℕ → EReal) (n : ℕ) : 0 ≤ den s n := Finset.sum_nonneg fun _ _ => exp_nonneg _

theorem den_ne_top (s : ℕ → EReal) (n : ℕ) : den s n ≠ ⊤ := by
  have h : den s n ≤ ((n : ℝ) : EReal) := by
    refine (Finset.sum_le_sum (g := fun _ => (1 : EReal)) fun j hj => exp_sub_le_one (le_top s (Finset.mem_range.mp hj))).trans ?_
    simp
  exact ne_of_lt (lt_of_le_of_lt h (EReal.coe_lt_top _))

/-- Dividing every weight by the floored denominator divides the weighted sum by it. -/
theorem quotient (s v : ℕ → EReal) (n : ℕ) (c : ℝ) (hc : 0 < c) :
    ∑ j ∈ Finset.range n, Ideal.div (Ideal.exp (s j - top s n)) (max (den s n) (c : EReal)) * v j
      = Ideal.div (num s v n) (max (den s n) (c : EReal)) := by
  obtain ⟨y, hy, hpos⟩ : ∃ y : ℝ, max (den s n) (c : EReal) = (y : EReal) ∧ 0 < y := by
    lift den s n to ℝ using ⟨den_ne_top s n, ne_of_gt (lt_of_lt_of_le EReal.bot_lt_zero (den_nonneg s n))⟩ with d
    exact ⟨max d c, (EReal.coe_strictMono.monotone.map_max).symm, lt_max_of_lt_right hc⟩
  rw [hy]
  simp only [Ideal.div_coe hpos.ne']
  unfold num
  rw [mul_comm (∑ j ∈ _, _), mul_sum _ (by exact_mod_cast (one_div_pos.mpr hpos).le) (EReal.coe_ne_top _)]
  exact Finset.sum_congr rfl fun j _ => by ac_rfl
end Cert.OnlineSoftmax
end
-- ==== Proof.AttentionTrip.lean ====
/- One trip of the attention kernel's loop over blocks of keys: what it leaves in the running greatest score, the running
   denominator and the running weighted sum of every head, from what they held before. -/
module
public import proofs.«01_k».proof.Proof.Gen.AttentionIdeal.Loops
public import proofs.«01_k».proof.Proof.HeadBuffer
public import proofs.«01_k».proof.Proof.OnlineSoftmax
public import Idealize.ShloMosaic.Lib.WordCmp
public import Idealize.ShloMosaic.Lib.WordArith.Masks
@[expose] public section
set_option maxRecDepth 16384
noncomputable section
namespace Cert.AttentionTrip
open Cert.AttentionIdeal Cert.AttentionIdeal.Gen Idealize.ShloMosaic Idealize.ShloMosaic.TcCoe Idealize.SL.Sem

/-- Head `h`'s score of query row `r` of block `q` against key `j`; a later key, or one past the end, is hidden. -/
def score (Q : S1x256x512.Idx → EReal) (K : S1x2048x512.Idx → EReal) (q : ℕ) (h : Fin 4) (r : Fin 256) (j : ℕ) : EReal :=
  if hj : j < 2048 then
    if j ≤ 256 * q + r.val then
      (∑ d : Fin 128, Q (ix3 0 r ⟨128 * h.val + d.val, by omega⟩) * K (ix3 0 ⟨j, hj⟩ ⟨128 * h.val + d.val, by omega⟩))
        * Ideal.ofBits .f32 0x3DD105EC#32
    else ⊥
  else ⊥

/-- Column `l` of the value of key `j`. -/
def value (V : S1x2048x256.Idx → EReal) (l : Fin 256) (j : ℕ) : EReal := if hj : j < 2048 then V (ix3 0 ⟨j, hj⟩ l) else 0

/-- The kernel visits the blocks of keys up to its own. -/
theorem trips_eq : ∀ i : grid0.Coords, (k0_t1_loop i).trips = (i 1).val + 1 := by decide +kernel

theorem named_mask : Named.named (F := Ideal) κ "mask" (φ := .f32) 0xF149F2CA#32 = (⊥ : EReal) :=
  IdealRules.named_const.ideal_named_scalar κ "mask" _ _ rfl

theorem ofBits_bot : Ideal.ofBits .f32 0xFF800000#32 = ⊥ := by simp [Ideal.ofBits, Ideal.ieee]

/-- The first key of block `k`. -/
theorem first_key (k : ℕ) (hk : k < 8) : Scalar.muli (Scf.iv 0#32 1#32 k) 256#32 = BitVec.ofNat 32 (256 * k) := by
  have h : Scf.iv 0#32 1#32 k = BitVec.ofNat 32 k := by
    apply BitVec.eq_of_toNat_eq
    rw [WordArith.toNat_iv_zero_one k (by omega), BitVec.toNat_ofNat, Nat.mod_eq_of_lt (by omega)]
  rw [h]
  exact (WordCmp.muli_ofNat k 256).trans (by rw [mul_comm])

theorem first_key_nat (k : ℕ) (hk : k < 8) : BitVec.toNat (Scalar.indexCast (BitVec.ofNat 32 (256 * k))) = 256 * k := by
  show BitVec.toNat (BitVec.ofNat 32 (256 * k)) = _
  rw [BitVec.toNat_ofNat]; omega

/-- The comparison of a key's position with the query's keeps the keys that are not later. -/
theorem select_mask (q k : ℕ) (hq : q < 8) (hk : k < 8) (r j : Fin 256) (a b : EReal) :
    Scalar.select (IntOp.cmpi .sle (IntOp.addi (BitVec.ofNat 32 (256 * k)) (BitVec.ofNat 32 j.val))
      (IntOp.addi (Scalar.muli (BitVec.ofNat 32 q) 256#32) (BitVec.ofNat 32 r.val))) a b
      = if 256 * k + j.val ≤ 256 * q + r.val then a else b := by
  have h1 : IntOp.addi (BitVec.ofNat 32 (256 * k)) (BitVec.ofNat 32 j.val) = BitVec.ofNat 32 (256 * k + j.val) :=
    (BitVec.ofNat_add ..).symm
  have h2 : IntOp.addi (Scalar.muli (BitVec.ofNat 32 q) 256#32) (BitVec.ofNat 32 r.val) = BitVec.ofNat 32 (256 * q + r.val) := by
    rw [show Scalar.muli (BitVec.ofNat 32 q) 256#32 = BitVec.ofNat 32 (256 * q) from (WordCmp.muli_ofNat q 256).trans (by rw [mul_comm])]
    exact (BitVec.ofNat_add ..).symm
  rw [h1, h2]
  by_cases h : 256 * k + j.val ≤ 256 * q + r.val
  · rw [if_pos h, (WordCmp.cmpi_sle_ofNat_eq_one_iff (by omega) (by omega)).mpr h]; rfl
  · rw [if_neg h, (WordCmp.cmpi_sle_ofNat_eq_zero_iff (by omega) (by omega)).mpr (by omega)]; rfl

/-- A hidden key's exponential is zero already. -/
theorem exp_hidden (p : Prop) [Decidable p] (a m : EReal) :
    (if p then Ideal.exp ((if p then a else ⊥) - m) else 0) = Ideal.exp ((if p then a else ⊥) - m) := by
  by_cases h : p
  · simp only [h, if_true]
  · simp only [h, if_false, EReal.bot_sub, Ideal.exp_bot]

theorem exp_hidden_mul (p : Prop) [Decidable p] (a m v : EReal) :
    (if p then Ideal.exp ((if p then a else ⊥) - m) * v else 0) = Ideal.exp ((if p then a else ⊥) - m) * v := by
  by_cases h : p
  · simp only [h, if_true]
  · simp only [h, if_false, EReal.bot_sub, Ideal.exp_bot, zero_mul]

section Trip
variable (c : Dev nD) (i : grid0.Coords) (arg2 : Memref sig .tc .vmem S1x256x512 .bf16) (harg2 : arg2.IsWhole)
  (arg3 : Memref sig .tc .vmem S1x2048x512 .bf16) (harg3 : arg3.IsWhole) (arg4 : Memref sig .tc .vmem S1x2048x256 .bf16) (harg4 : arg4.IsWhole)
  (arg5 : Memref sig .tc .vmem S1x256x256 .f32) (harg5 : arg5.IsWhole) (arg6 : Memref sig .tc .vmem S4x256x1 .f32) (harg6 : arg6.IsWhole)
  (arg7 : Memref sig .tc .vmem S4x256x1 .f32) (harg7 : arg7.IsWhole) (arg8 : Memref sig .tc .vmem S4x256x256 .f32) (harg8 : arg8.IsWhole)
  (v20 : BitVec 32) (v32 : FVec Ideal S4x256x256 .f32)
  (X2 : BufTy.Contents (Elt Ideal) arg2.view.ty) (X3 : BufTy.Contents (Elt Ideal) arg3.view.ty) (X4 : BufTy.Contents (Elt Ideal) arg4.view.ty)

/-- The pieces trip `k` stores, from the contents `f6`, `f7`, `f8` of the three running buffers at its start. -/
abbrev pieces (k : Fin (k0_t1_loop i).trips) (f6 : BufTy.Contents (Elt Ideal) arg6.view.ty) (f7 : BufTy.Contents (Elt Ideal) arg7.view.ty)
    (f8 : BufTy.Contents (Elt Ideal) arg8.view.ty) :=
  tripL_k0_t1 (F := Ideal) Variants.none c none i arg2 harg2 arg3 harg3 arg4 harg4 arg5 harg5 arg6 harg6 arg7 harg7 arg8 harg8
    (Scalar.muli (BitVec.ofNat 32 (i 1).val) 256#32) v20 v32 (iota Kind.tc S256x256 32 [1] iota_S256x256_d1_w32) X2 X3 X4 k f6 f7 f8

variable (k : Fin (k0_t1_loop i).trips) (f6 : BufTy.Contents (Elt Ideal) arg6.view.ty) (f7 : BufTy.Contents (Elt Ideal) arg7.view.ty)
  (f8 : BufTy.Contents (Elt Ideal) arg8.view.ty) (h : Fin 4) (r : Fin 256)

/-- The greatest score after a trip that found `M`. -/
abbrev newTop (M : EReal) : EReal :=
  max M (Finset.univ.fold max ⊥ fun j : Fin 256 => score (arg2.view.read (Elt Ideal) X2) (arg3.view.read (Elt Ideal) X3) (i 1).val h r (256 * k.val + j.val))

set_option maxHeartbeats 1600000 in
/-- What the trip leaves in head `h`'s row `r` of the running greatest score, denominator and weighted sum. -/
theorem step (l : Fin 256) (M L A : EReal) (hM : (show EReal from arg6.view.read (Elt Ideal) f6 (ix3 h r 0)) = M)
    (hL : (show EReal from arg7.view.read (Elt Ideal) f7 (ix3 h r 0)) = L) (hA : (show EReal from arg8.view.read (Elt Ideal) f8 (ix3 h r l)) = A) :
    (show EReal from arg6.view.read (Elt Ideal) (arg6.view.writes (Elt Ideal) f6 (pieces c i arg2 harg2 arg3 harg3 arg4 harg4 arg5 harg5 arg6 harg6 arg7 harg7 arg8 harg8 v20 v32 X2 X3 X4 k f6 f7 f8).1) (ix3 h r 0))
      = newTop i arg2 arg3 X2 X3 k h r M
    ∧ (show EReal from arg7.view.read (Elt Ideal) (arg7.view.writes (Elt Ideal) f7 (pieces c i arg2 harg2 arg3 harg3 arg4 harg4 arg5 harg5 arg6 harg6 arg7 harg7 arg8 harg8 v20 v32 X2 X3 X4 k f6 f7 f8).2.1) (ix3 h r 0))
      = Ideal.exp (M - newTop i arg2 arg3 X2 X3 k h r M) * L + ∑ j : Fin 256, Ideal.exp (score (arg2.view.read (Elt Ideal) X2) (arg3.view.read (Elt Ideal) X3) (i 1).val h r (256 * k.val + j.val) - newTop i arg2 arg3 X2 X3 k h r M)
    ∧ (show EReal from arg8.view.read (Elt Ideal) (arg8.view.writes (Elt Ideal) f8 (pieces c i arg2 harg2 arg3 harg3 arg4 harg4 arg5 harg5 arg6 harg6 arg7 harg7 arg8 harg8 v20 v32 X2 X3 X4 k f6 f7 f8).2.2) (ix3 h r l))
      = Ideal.exp (M - newTop i arg2 arg3 X2 X3 k h r M) * A + ∑ j : Fin 256, Ideal.exp (score (arg2.view.read (Elt Ideal) X2) (arg3.view.read (Elt Ideal) X3) (i 1).val h r (256 * k.val + j.val) - newTop i arg2 arg3 X2 X3 k h r M)
          * value (arg4.view.read (Elt Ideal) X4) l (256 * k.val + j.val) := by
  subst hM hL hA
  have hq : (i 1).val < 8 := (i 1).isLt
  have hk : k.val < 8 := by have := k.isLt; have := trips_eq i; omega
  have hlt : ∀ j : Fin 256, 256 * k.val + j.val < 2048 := fun j => by omega
  unfold newTop pieces tripL_k0_t1 trip_k0_t1
  dsimp only
  sl_unfold_words
  simp only [HeadBuffer.read_store_head, score, value, hlt, dite_true]
  fin_cases h <;> refine ⟨?_, ?_, ?_⟩
  all_goals
    simp only [if_true, if_false, Fin.isValue, Fin.mk_zero, Fin.reduceFinMk, Fin.val_zero, Fin.val_one, Fin.val_two, Nat.one_ne_zero,
      OfNat.ofNat_ne_zero, Nat.reduceEqDiff]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay80, k0_pay81, HeadBuffer.readAt_box, named_mask]
    simp only [first_key _ hk, first_key_nat _ hk, select_mask _ _ hq hk, ofBits_bot, exp_hidden, exp_hidden_mul]
end Trip
end Cert.AttentionTrip
end
-- ==== Proof.AttentionBlock.lean ====
/- One block of the attention kernel's result: after its loop the running buffers hold the softmax over the keys up to the
   block's own, and each column takes its head's weighted sum over its head's denominator. -/
module
public import proofs.«01_k».proof.Proof.AttentionTrip
public import proofs.«01_k».proof.Proof.Gen.AttentionIdeal.Frame
public import Idealize.ShloMosaic.Lib.VecWindow
public import Idealize.ShloMosaic.Lib.Pipeline.ValueKit
@[expose] public section
set_option maxRecDepth 16384
noncomputable section
namespace Cert.AttentionBlock
open Cert.AttentionIdeal Cert.AttentionIdeal.Gen Idealize.ShloMosaic Idealize.ShloMosaic.TcCoe Idealize.SL.Sem
open AttentionTrip (score value)
open OnlineSoftmax (top den num)

/-- The kernel's second loop, over the keys left over by the first, is empty. -/
theorem rest_empty : ∀ i : grid0.Coords, (k0_t2_loop i).trips = 0 := by decide +kernel

section Block
variable (c : Dev nD) (i : grid0.Coords) (arg2 : Memref sig .tc .vmem S1x256x512 .bf16) (harg2 : arg2.IsWhole)
  (arg3 : Memref sig .tc .vmem S1x2048x512 .bf16) (harg3 : arg3.IsWhole) (arg4 : Memref sig .tc .vmem S1x2048x256 .bf16) (harg4 : arg4.IsWhole)
  (arg5 : Memref sig .tc .vmem S1x256x256 .f32) (harg5 : arg5.IsWhole) (arg6 : Memref sig .tc .vmem S4x256x1 .f32) (harg6 : arg6.IsWhole)
  (arg7 : Memref sig .tc .vmem S4x256x1 .f32) (harg7 : arg7.IsWhole) (arg8 : Memref sig .tc .vmem S4x256x256 .f32) (harg8 : arg8.IsWhole)

section State
variable (v20 : BitVec 32) (v32 : FVec Ideal S4x256x256 .f32)
  (X2 : BufTy.Contents (Elt Ideal) arg2.view.ty) (X3 : BufTy.Contents (Elt Ideal) arg3.view.ty) (X4 : BufTy.Contents (Elt Ideal) arg4.view.ty)
  (G6 : BufTy.Contents (Elt Ideal) arg6.view.ty) (G7 : BufTy.Contents (Elt Ideal) arg7.view.ty) (G8 : BufTy.Contents (Elt Ideal) arg8.view.ty)

/-- The pieces the first `k` trips store. -/
abbrev stored (k : ℕ) :=
  pb_k0_t1 (F := Ideal) Variants.none c none i arg2 harg2 arg3 harg3 arg4 harg4 arg5 harg5 arg6 harg6 arg7 harg7 arg8 harg8
    (Scalar.muli (BitVec.ofNat 32 (i 1).val) 256#32) v20 v32 (iota Kind.tc S256x256 32 [1] iota_S256x256_d1_w32) X2 X3 X4 G6 G7 G8 k

/-- After `k` trips the running buffers hold the softmax over the first `256 k` keys. -/
theorem state (h : Fin 4) (r l : Fin 256) (h6 : (show EReal from arg6.view.read (Elt Ideal) G6 (ix3 h r 0)) = ⊥)
    (h7 : (show EReal from arg7.view.read (Elt Ideal) G7 (ix3 h r 0)) = 0) (h8 : (show EReal from arg8.view.read (Elt Ideal) G8 (ix3 h r l)) = 0)
    (k : ℕ) (hk : k ≤ (k0_t1_loop i).trips) :
    let s := score (arg2.view.read (Elt Ideal) X2) (arg3.view.read (Elt Ideal) X3) (i 1).val h r
    let v := value (arg4.view.read (Elt Ideal) X4) l
    let S := stored c i arg2 harg2 arg3 harg3 arg4 harg4 arg5 harg5 arg6 harg6 arg7 harg7 arg8 harg8 v20 v32 X2 X3 X4 G6 G7 G8 k
    (show EReal from arg6.view.read (Elt Ideal) (arg6.view.writes (Elt Ideal) G6 S.1) (ix3 h r 0)) = top s (256 * k)
    ∧ (show EReal from arg7.view.read (Elt Ideal) (arg7.view.writes (Elt Ideal) G7 S.2.1) (ix3 h r 0)) = den s (256 * k)
    ∧ (show EReal from arg8.view.read (Elt Ideal) (arg8.view.writes (Elt Ideal) G8 S.2.2) (ix3 h r l)) = num s v (256 * k) := by
  induction k with
  | zero => exact ⟨h6, h7, h8⟩
  | succ k ih =>
    obtain ⟨a, b, d⟩ := ih (by omega)
    dsimp only [stored]
    rw [pb_k0_t1_succ Variants.none c none i arg2 harg2 arg3 harg3 arg4 harg4 arg5 harg5 arg6 harg6 arg7 harg7 arg8 harg8 _ _ _ _ _ _ _ _ _ _ ⟨k, hk⟩]
    dsimp only
    rw [View.writes_append, View.writes_append, View.writes_append, Nat.mul_succ, OnlineSoftmax.den_add, OnlineSoftmax.num_add,
      OnlineSoftmax.top_add]
    exact AttentionTrip.step c i arg2 harg2 arg3 harg3 arg4 harg4 arg5 harg5 arg6 harg6 arg7 harg7 arg8 harg8 v20 v32 X2 X3 X4 ⟨k, hk⟩
      _ _ _ h r l _ _ _ a b d
end State

/-- A choice by a range of lanes. -/
theorem lane_select (l : Fin 256) (lo hi : ℕ) (hlo : lo < 2 ^ 31) (hhi : hi < 2 ^ 31) (a b : EReal) :
    Scalar.select (IntOp.andi (IntOp.cmpi .sge (BitVec.ofNat 32 l.val) (BitVec.ofNat 32 lo)) (IntOp.cmpi .slt (BitVec.ofNat 32 l.val) (BitVec.ofNat 32 hi))) a b
      = if lo ≤ l.val ∧ l.val < hi then a else b := by
  rw [WordCmp.cmpi_sge_ofNat (by omega) (by omega), WordCmp.cmpi_slt_ofNat (by omega) (by omega)]
  by_cases h1 : lo ≤ l.val <;> by_cases h2 : l.val < hi <;> simp [h1, h2, Scalar.select, IntOp.andi]

variable (x0 : FVec Ideal S1x256x512 .bf16) (x1 : FVec Ideal S1x2048x512 .bf16) (x2 : FVec Ideal S1x2048x256 .bf16)

/-- The running buffers before the loop: −∞, zero and zero. -/
abbrev start6 : BufTy.Contents (Elt Ideal) arg6.view.ty :=
  arg6.view.writes (Elt Ideal) arg6.view.junk [⟨Rect.unit (s := S4x256x1) ![0, 0, 0] ![4, 256, 1] inb_S4x256x1_S4x256x1_0_0_0, k0_pay77 (F := Ideal)⟩]
abbrev start7 : BufTy.Contents (Elt Ideal) arg7.view.ty :=
  arg7.view.writes (Elt Ideal) arg7.view.junk [⟨Rect.unit (s := S4x256x1) ![0, 0, 0] ![4, 256, 1] inb_S4x256x1_S4x256x1_0_0_0, k0_pay78 (F := Ideal)⟩]
abbrev start8 : BufTy.Contents (Elt Ideal) arg8.view.ty :=
  arg8.view.writes (Elt Ideal) arg8.view.junk [⟨Rect.unit (s := S4x256x256) ![0, 0, 0] ![4, 256, 256] inb_S4x256x256_S4x256x256_0_0_0, k0_pay79 (F := Ideal)⟩]

theorem start6_read (h : Fin 4) (r : Fin 256) : (show EReal from arg6.view.read (Elt Ideal) (start6 arg6) (ix3 h r 0)) = ⊥ :=
  (congrFun (View.read_writes_full arg6.view _ _ _ _) _).trans (by pointwise [k0_pay77, AttentionTrip.named_mask])

theorem start7_read (h : Fin 4) (r : Fin 256) : (show EReal from arg7.view.read (Elt Ideal) (start7 arg7) (ix3 h r 0)) = 0 :=
  (congrFun (View.read_writes_full arg7.view _ _ _ _) _).trans (by pointwise [k0_pay78])

theorem start8_read (h : Fin 4) (r l : Fin 256) : (show EReal from arg8.view.read (Elt Ideal) (start8 arg8) (ix3 h r l)) = 0 :=
  (congrFun (View.read_writes_full arg8.view _ _ _ _) _).trans (by pointwise [k0_pay79])

/-- The running buffers after the loop. -/
theorem finish (v20 : BitVec 32) (h : Fin 4) (r l : Fin 256) :
    let s := score x0 x1 (i 1).val h r
    let S := stored c i arg2 harg2 arg3 harg3 arg4 harg4 arg5 harg5 arg6 harg6 arg7 harg7 arg8 harg8 v20 (k0_pay79 (F := Ideal)) (harg2.unread x0) (harg3.unread x1) (harg4.unread x2)
      (start6 arg6) (start7 arg7) (start8 arg8) (k0_t1_loop i).trips
    (show EReal from arg7.view.read (Elt Ideal) (arg7.view.writes (Elt Ideal) (start7 arg7) S.2.1) (ix3 h r 0)) = den s (256 * ((i 1).val + 1))
    ∧ (show EReal from arg8.view.read (Elt Ideal) (arg8.view.writes (Elt Ideal) (start8 arg8) S.2.2) (ix3 h r l))
      = num s (value x2 l) (256 * ((i 1).val + 1)) := by
  have key := (state c i arg2 harg2 arg3 harg3 arg4 harg4 arg5 harg5 arg6 harg6 arg7 harg7 arg8 harg8 v20 (k0_pay79 (F := Ideal)) (harg2.unread x0) (harg3.unread x1)
    (harg4.unread x2) (start6 arg6) (start7 arg7) (start8 arg8) h r l (start6_read arg6 h r) (start7_read arg7 h r) (start8_read arg8 h r l) _ le_rfl).2
  dsimp only at key
  rw [harg2.read_unread, harg3.read_unread, harg4.read_unread, congrArg (256 * ·) (AttentionTrip.trips_eq i)] at key
  exact key

/-- Column `l` of the result takes the quotient of its head, `l / 64`. -/
theorem columns (A0 A1 A2 A3 : FVec Ideal S1x256x256 .f32) (L0 L1 L2 L3 : FVec Ideal S1x256x1 .f32) (r l : Fin 256) (h : Fin 4)
    (hl : l.val / 64 = h.val) (n d : EReal)
    (hn : (![A0, A1, A2, A3] : Fin 4 → FVec Ideal S1x256x256 .f32) h (ix3 0 r l) = n)
    (hd : (![L0, L1, L2, L3] : Fin 4 → FVec Ideal S1x256x1 .f32) h (ix3 0 r 0) = d) :
    k0_pay86 (F := Ideal) (iota Kind.tc S256x256 32 [1] iota_S256x256_d1_w32) (k0_pay83 A0 L0) (k0_pay84 A1 L1) k0_pay85 A2 L2 A3 L3 (ix3 0 r l)
      = Ideal.div n (max d (Ideal.ofBits .f32 0x0DA24260#32)) := by
  subst hn hd
  pointwise [k0_pay86, k0_pay85, k0_pay84, k0_pay83]
  rw [lane_select l 192 256 (by omega) (by omega), lane_select l 128 192 (by omega) (by omega), lane_select l 64 128 (by omega) (by omega),
    lane_select l 0 64 (by omega) (by omega)]
  fin_cases h <;> dsimp only at hl ⊢
  · rw [if_neg (by omega), if_neg (by omega), if_neg (by omega), if_pos (by omega)]; rfl
  · rw [if_neg (by omega), if_neg (by omega), if_pos (by omega)]; rfl
  · rw [if_neg (by omega), if_pos (by omega)]; rfl
  · rw [if_pos (by omega)]; rfl

/-- The block the kernel writes: each column the quotient of its head's weighted sum by its head's denominator. -/
theorem block_apply (r l : Fin 256) (h : Fin 4) (hl : l.val / 64 = h.val) :
    (out0_A_3 (F := Ideal) c i arg2 harg2 arg3 harg3 arg4 harg4 arg5 harg5 arg6 harg6 arg7 harg7 arg8 harg8 x0 x1 x2 : FVec Ideal S1x256x256 .f32) (ix3 0 r l)
      = Ideal.div (num (score x0 x1 (i 1).val h r) (value x2 l) (256 * ((i 1).val + 1)))
          (max (den (score x0 x1 (i 1).val h r) (256 * ((i 1).val + 1))) (Ideal.ofBits .f32 0x0DA24260#32)) := by
  have key := fun v20 => finish c i arg2 harg2 arg3 harg3 arg4 harg4 arg5 harg5 arg6 harg6 arg7 harg7 arg8 harg8 x0 x1 x2 v20 h r l
  unfold out0_A_3
  frame_out
  have hrest := rest_empty i
  dsimp only [k0_t2_loop, Scf.Loop.trips] at hrest
  simp only [hrest, pb_k0_t2, List.nil_append]
  dsimp only [stored, start6, start7, start8] at key
  simp only [← View.writes_append] at key
  refine columns _ _ _ _ _ _ _ _ r l h hl _ _ ?_ ?_
  · fin_cases h <;> exact (HeadBuffer.readAt_box _ _ _ _ _ _ _ _ _).trans ((congrArg _ (by idx_ext)).trans (key _).2)
  · fin_cases h <;> exact (HeadBuffer.readAt_box _ _ _ _ _ _ _ _ _).trans ((congrArg _ (by idx_ext)).trans (key _).1)
end Block
end Cert.AttentionBlock
end
-- ==== Proof.AttentionSpec.lean ====
/- The latent attention as one formula: causal softmax of a head's scores, its weighted sum of values over its floored denominator. -/
module
public import proofs.«01_k».proof.Proof.OnlineSoftmax
@[expose] public section
noncomputable section
namespace Cert.AttentionSpec
open Idealize.ShloMosaic

/-- The packed queries and keys: every head has 128 columns. -/
abbrev Packed := (⟨3, ![16, 2048, 512]⟩ : Shape).Idx → EReal

/-- The values, and the result: every head has 64 columns. -/
abbrev Values := (⟨3, ![16, 2048, 256]⟩ : Shape).Idx → EReal

/-- Head `h`'s score of query `n` against key `j`; a later key, or one past the end, is hidden. -/
def score (Q K : Packed) (b : Fin 16) (h : Fin 4) (n : Fin 2048) (j : ℕ) : EReal :=
  if hj : j < 2048 then
    if j ≤ n.val then
      (∑ d : Fin 128, Q (ix3 b n ⟨128 * h.val + d.val, by omega⟩) * K (ix3 b ⟨j, hj⟩ ⟨128 * h.val + d.val, by omega⟩))
        * Ideal.ofBits .f32 0x3DD105EC#32
    else ⊥
  else ⊥

/-- Column `l` of the value of key `j`. -/
def value (V : Values) (b : Fin 16) (l : Fin 256) (j : ℕ) : EReal := if hj : j < 2048 then V (ix3 b ⟨j, hj⟩ l) else 0

/-- The attention's result at query `n`, column `l`. -/
def result (Q K : Packed) (V : Values) (b : Fin 16) (n : Fin 2048) (l : Fin 256) : EReal :=
  let s := score Q K b ⟨l.val / 64, by omega⟩ n
  Ideal.div (OnlineSoftmax.num s (value V b l) 2048) (max (OnlineSoftmax.den s 2048) (Ideal.ofBits .f32 0x0DA24260#32))

/-- Only the keys up to a bound at or past the query matter. -/
theorem result_prefix (Q K : Packed) (V : Values) (b : Fin 16) (n : Fin 2048) (l : Fin 256) (h : Fin 4) (hl : l.val / 64 = h.val)
    (p : ℕ) (hp : n.val < p) (hp' : p ≤ 2048) :
    result Q K V b n l = Ideal.div (OnlineSoftmax.num (score Q K b h n) (value V b l) p)
      (max (OnlineSoftmax.den (score Q K b h n) p) (Ideal.ofBits .f32 0x0DA24260#32)) := by
  have hh : (⟨l.val / 64, by omega⟩ : Fin 4) = h := Fin.ext hl
  have hid : ∀ j, p ≤ j → j < p + (2048 - p) → score Q K b h n j = ⊥ := fun j h1 h2 => by
    unfold score
    rw [dif_pos (by omega), if_neg (by omega)]
  have e : p + (2048 - p) = 2048 := by omega
  unfold result
  dsimp only
  rw [hh, ← OnlineSoftmax.num_hidden _ _ p (2048 - p) hid, ← OnlineSoftmax.den_hidden _ p (2048 - p) hid, e]
end Cert.AttentionSpec
end
-- ==== Proof.AttentionArray.lean ====
/- The attention call's result array: from the blocks its points write, the attention of `AttentionSpec`. -/
module
public import proofs.«01_k».proof.Proof.AttentionBlock
public import proofs.«01_k».proof.Proof.AttentionSpec
public import proofs.«01_k».proof.Proof.Gen.AttentionIdeal.Value
@[expose] public section
set_option maxRecDepth 16384
noncomputable section
namespace Cert.AttentionArray
open Cert.AttentionIdeal Cert.AttentionIdeal.Gen Idealize.ShloMosaic Idealize.ShloMosaic.TcCoe Idealize.SL.Sem
open Idealize.ShloMosaic.Pipeline (Dat)

/-- Where each window's block sits: point `t` is batch `t / 8`, block of queries `t % 8`; keys and values are the whole batch's. -/
theorem index_maps : ∀ t : Fin cfg0.N, win0_0.index t = ![t.val / 8, t.val % 8, 0] ∧ win0_1.index t = ![t.val / 8, 0, 0]
    ∧ win0_2.index t = ![t.val / 8, 0, 0] ∧ win0_3.index t = ![t.val / 8, t.val % 8, 0] ∧ ((grid0.coords t) 1).val = t.val % 8 ∧ t.val < 128 :=
  (by decide +kernel : ∀ t : Fin grid0.N, _)

/-- The result array. -/
def G (Q K : FVec Ideal S16x2048x512 .bf16) (V : FVec Ideal S16x2048x256 .bf16) : FVec Ideal S16x2048x256 .f32 := fun j =>
  AttentionSpec.result Q K V (j 0) (j 1) (j 2)

variable (m : (ℓ : Loc nD τ sig) → Buf (Elt Ideal) ℓ)

theorem queries_read (c : Dev nD) (t : Fin cfg0.N) (r : Fin 256) (k : Fin 512) (h0 : t.val / 8 < 16) (h : 256 * (t.val % 8) + r.val < 2048) :
    (show FVec Ideal S1x256x512 .bf16 from iblk m c 0 t) (ix3 0 r k)
      = (show FVec Ideal S16x2048x512 .bf16 from m ((c : Thread nD τ).loc main_arg0)) (ix3 ⟨t.val / 8, h0⟩ ⟨256 * (t.val % 8) + r.val, h⟩ k) := by
  blk_ext [iblk, V, index_maps t]

theorem keys_read (c : Dev nD) (t : Fin cfg0.N) (j : Fin 2048) (k : Fin 512) (h0 : t.val / 8 < 16) :
    (show FVec Ideal S1x2048x512 .bf16 from iblk m c 1 t) (ix3 0 j k)
      = (show FVec Ideal S16x2048x512 .bf16 from m ((c : Thread nD τ).loc main_arg1)) (ix3 ⟨t.val / 8, h0⟩ j k) := by
  blk_ext [iblk, V, index_maps t]

theorem values_read (c : Dev nD) (t : Fin cfg0.N) (j : Fin 2048) (k : Fin 256) (h0 : t.val / 8 < 16) :
    (show FVec Ideal S1x2048x256 .bf16 from iblk m c 2 t) (ix3 0 j k)
      = (show FVec Ideal S16x2048x256 .bf16 from m ((c : Thread nD τ).loc main_arg2)) (ix3 ⟨t.val / 8, h0⟩ j k) := by
  blk_ext [iblk, V, index_maps t]

/-- A block's scores are the whole array's. -/
theorem score_eq (Q : FVec Ideal S1x256x512 .bf16) (K : FVec Ideal S1x2048x512 .bf16) (Q' K' : FVec Ideal S16x2048x512 .bf16) (b : Fin 16) (q : ℕ)
    (h : Fin 4) (r : Fin 256) (hn : 256 * q + r.val < 2048) (hQ : ∀ k, Q (ix3 0 r k) = Q' (ix3 b ⟨256 * q + r.val, hn⟩ k))
    (hK : ∀ j k, K (ix3 0 j k) = K' (ix3 b j k)) :
    AttentionTrip.score Q K q h r = AttentionSpec.score Q' K' b h ⟨256 * q + r.val, hn⟩ := by
  funext j
  simp only [AttentionTrip.score, AttentionSpec.score, hQ, hK]

theorem value_eq (V : FVec Ideal S1x2048x256 .bf16) (V' : FVec Ideal S16x2048x256 .bf16) (b : Fin 16) (l : Fin 256)
    (hV : ∀ j k, V (ix3 0 j k) = V' (ix3 b j k)) : AttentionTrip.value V l = AttentionSpec.value V' b l := by
  funext j
  simp only [AttentionTrip.value, AttentionSpec.value, hV]

/-- The result array is the attention of the arguments. -/
theorem array_eq (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  idx_vars y
  obtain ⟨-, -, -, h3, hq, ht⟩ := index_maps t
  obtain rfl : y0 = 0 := Subsingleton.elim _ _
  have h0 : t.val / 8 < 16 := by omega
  have hn : 256 * (t.val % 8) + y1.val < 2048 := by omega
  refine (AttentionBlock.block_apply c _ _ _ _ _ _ _ _ _ _ _ _ _ _ _ _ _ _ y1 y2 ⟨y2.val / 64, by omega⟩ rfl).trans ?_
  have he : ((View.whole main_v0).slice (win0_3.rect t)).emb (ix3 0 y1 y2)
      = (ix3 ⟨t.val / 8, h0⟩ ⟨256 * (t.val % 8) + y1.val, hn⟩ y2 : S16x2048x256.Idx) := by
    blk_ext [index_maps t]
  rw [he]
  refine Eq.trans ?_ (AttentionSpec.result_prefix (m ((c : Thread nD τ).loc main_arg0)) (m ((c : Thread nD τ).loc main_arg1))
    (m ((c : Thread nD τ).loc main_arg2)) ⟨t.val / 8, h0⟩ ⟨256 * (t.val % 8) + y1.val, hn⟩ y2 ⟨y2.val / 64, by omega⟩ rfl
    (256 * (t.val % 8 + 1)) (show 256 * (t.val % 8) + y1.val < _ by omega) (by omega)).symm
  rw [hq]
  rw [score_eq _ _ _ _ ⟨t.val / 8, h0⟩ _ _ _ hn (fun k => queries_read m c t y1 k h0 hn) (fun j k => keys_read m c t j k h0),
    value_eq _ _ ⟨t.val / 8, h0⟩ _ (fun j k => values_read m c t j k h0)]
end Cert.AttentionArray
end
-- ==== Proof.AttentionReference.lean ====
/- What the attention reference computes: the attention of `AttentionSpec`. -/
module
public import proofs.«01_k».proof.Proof.AttentionSpec
public import proofs.«01_k».proof.Proof.Gen.AttentionRefIdeal.Run
public import Idealize.ShloMosaic.Lib.Pointwise
public import Idealize.ShloMosaic.Lib.ValueIdx
public import Idealize.ShloMosaic.Lib.WordCmp
public import Idealize.ShloMosaic.Lib.WordArith.Masks
@[expose] public section
set_option maxRecDepth 16384
noncomputable section
namespace Cert.AttentionReference
open Cert.AttentionRefIdeal Cert.AttentionRefIdeal.Gen Idealize.ShloMosaic Idealize.ShloMosaic.TcCoe Idealize.SL.Sem

/-- The floor of the denominator is a positive real. -/
theorem floor_pos : ∃ c : ℝ, Ideal.ofBits .f32 0x0DA24260#32 = (c : EReal) ∧ 0 < c := by
  refine ⟨(10633824 : ℝ) * 2 ^ (-123 : ℤ), ?_, by positivity⟩
  simp [Ideal.ofBits, Ideal.ieee]

/-- The mask keeps the keys up to the query. -/
theorem select_keys (x n : Fin 2048) (a b : EReal) :
    Scalar.select (IntOp.cmpi CmpIPredicate.sle (BitVec.ofNat 32 x.val) (BitVec.ofNat 32 n.val)) a b = if x.val ≤ n.val then a else b := by
  by_cases h : x.val ≤ n.val
  · rw [(WordCmp.cmpi_sle_ofNat_eq_one_iff (by omega) (by omega)).mpr h, if_pos h]; rfl
  · rw [(WordCmp.cmpi_sle_ofNat_eq_zero_iff (by omega) (by omega)).mpr (by omega), if_neg h]; rfl

/-- The greatest of all the scores. -/
theorem fold_top (s : ℕ → EReal) :
    (Finset.univ.fold max ⊥ fun x : Fin 2048 => s x.val) = OnlineSoftmax.top s 2048 := by
  have h := OnlineSoftmax.top_add s 0 2048
  simpa [OnlineSoftmax.top] using h.symm

/-- Softmax over masked scores `a`, as the reference writes it, is the quotient of the attention's numerator and denominator. -/
theorem softmax_masked (n : Fin 2048) (a w : Fin 2048 → EReal) (s v : ℕ → EReal) (z z0 f : EReal) (hz : z = ⊥) (h0 : z0 = 0)
    (hf : f = Ideal.ofBits .f32 0x0DA24260#32) (hs : ∀ x : Fin 2048, s x.val = if x.val ≤ n.val then a x else ⊥)
    (hv : ∀ x : Fin 2048, v x.val = w x) :
    (∑ x : Fin 2048, w x * Ideal.div
      (Scalar.select (IntOp.cmpi CmpIPredicate.sle (BitVec.ofNat 32 x.val) (BitVec.ofNat 32 n.val))
        (Ideal.exp (Scalar.select (IntOp.cmpi CmpIPredicate.sle (BitVec.ofNat 32 x.val) (BitVec.ofNat 32 n.val)) (a x) z
          - Finset.univ.fold max z (fun y : Fin 2048 =>
              Scalar.select (IntOp.cmpi CmpIPredicate.sle (BitVec.ofNat 32 y.val) (BitVec.ofNat 32 n.val)) (a y) z))) z0)
      (max (∑ x : Fin 2048, Scalar.select (IntOp.cmpi CmpIPredicate.sle (BitVec.ofNat 32 x.val) (BitVec.ofNat 32 n.val))
        (Ideal.exp (Scalar.select (IntOp.cmpi CmpIPredicate.sle (BitVec.ofNat 32 x.val) (BitVec.ofNat 32 n.val)) (a x) z
          - Finset.univ.fold max z (fun y : Fin 2048 =>
              Scalar.select (IntOp.cmpi CmpIPredicate.sle (BitVec.ofNat 32 y.val) (BitVec.ofNat 32 n.val)) (a y) z))) z0) f))
      = Ideal.div (OnlineSoftmax.num s v 2048) (max (OnlineSoftmax.den s 2048) (Ideal.ofBits .f32 0x0DA24260#32)) := by
  have he : ∀ (x : Fin 2048) (t : EReal), (if x.val ≤ n.val then Ideal.exp (s x.val - t) else 0) = Ideal.exp (s x.val - t) := fun x t => by
    by_cases hx : x.val ≤ n.val
    · rw [if_pos hx]
    · rw [if_neg hx, hs, if_neg hx, EReal.bot_sub, Ideal.exp_bot]
  subst hz h0 hf
  simp only [select_keys, ← hs, fold_top, he]
  obtain ⟨c, hc, hpos⟩ := floor_pos
  rw [hc, ← OnlineSoftmax.quotient _ _ _ _ hpos]
  unfold OnlineSoftmax.den
  simp only [Finset.sum_range]
  refine Finset.sum_congr rfl fun x _ => ?_
  rw [mul_comm, hv]

/-- The reference's result is the attention of its arguments. -/
theorem result_apply (m : (ℓ : Loc nD τ sig) → Buf (Elt Ideal) ℓ) (d : Dev nD)
    (Q K : FVec Ideal S16x2048x512 .bf16) (V : FVec Ideal S16x2048x256 .bf16)
    (hQ : m ((d.tc : Thread nD τ).loc main_arg0) = Q) (hK : m ((d.tc : Thread nD τ).loc main_arg1) = K)
    (hV : m ((d.tc : Thread nD τ).loc main_arg2) = V) (b : Fin 16) (n : Fin 2048) (l : Fin 256) :
    (Value.res_out0 m d : FVec Ideal S16x2048x256 .f32) (ix3 b n l) = AttentionSpec.result Q K V b n l := by
  unfold Value.res_out0 Value.res_main_v30
  rw [hQ, hK, hV]
  pointwise
  have hz : Ideal.ofBits .f32 0xFF800000#32 = ⊥ := by simp [Ideal.ofBits, Ideal.ieee]
  have h0 : id (constant (F := Ideal) S_ FTy.f32 0#32) ix0 = (0 : EReal) := show Ideal.ofBits .f32 0#32 = 0 by simp [Ideal.ofBits, Ideal.ieee]
  refine softmax_masked n (fun x => (∑ d : Fin 128, Q (ix3 b n ⟨l.val / 64 * 128 + d.val, by omega⟩)
      * K (ix3 b x ⟨l.val / 64 * 128 + d.val, by omega⟩)) * Ideal.ofBits .f32 0x3DD105EC#32) (fun x => V (ix3 b x l))
    (AttentionSpec.score Q K b ⟨l.val / 64, by omega⟩ n) (AttentionSpec.value V b l) _ _ _ hz h0 rfl (fun x => ?_) (fun x => ?_)
  · simp only [AttentionSpec.score, x.isLt, dif_pos, mul_comm]
  · simp only [AttentionSpec.value, x.isLt, dif_pos]
end Cert.AttentionReference
end
-- ==== Proof.AttentionClaims.lean ====
/- The claims about the attention call: the frames of its three programs, that its idealization changes nothing but the
   mask constant, read as negative infinity, and that over the extended reals it computes the reference's attention. -/
module

public import proofs.«01_k».proof.Defs
public import proofs.«01_k».proof.Proof.AttentionArray
public import proofs.«01_k».proof.Proof.AttentionReference
public import proofs.«01_k».proof.Proof.Gen.Attention.Frame
public import Idealize.ShloMosaic.Lib.Claim

@[expose] public section

set_option maxRecDepth 16384

noncomputable section

namespace Cert.AttentionClaims

open Idealize.ShloMosaic Idealize.SL.Sem

/-- The kernel ends, leaving its arguments unchanged. -/
theorem frame_kernel : Cert.quiescent_Attention := by
  intro m g _
  exact Cert.Attention.Gen.frame m g

/-- So does its idealization. -/
theorem frame_ideal : Cert.quiescent_AttentionIdeal := by
  intro m g _
  exact Cert.AttentionIdeal.Gen.frame m g

/-- So does the reference. -/
theorem frame_reference : Cert.quiescent_AttentionRefIdeal := by
  intro m g _
  hlo_run
  · exact fun _ => ⟨trivial, trivial, trivial⟩
  · exact sem_eq_zero_of_no_sems (by rfl) _

/-- The idealization changes the mask constant alone. -/
theorem preserves : Cert.preserves_Attention_AttentionIdeal := by
  exact IdealRules.named_const.statement Cert.AttentionIdeal.κ "mask" .f32 0xF149F2CA#32 ⊥ rfl

/-- The kernel's result array is the reference's, for all queries, keys and values. -/
theorem algebraic : Cert.algebraic_AttentionIdeal_AttentionRefIdeal := by
  pair_intro
  · run_from Cert.AttentionIdeal.Gen.run_main m g
  · run_from Cert.AttentionRefIdeal.Value.run m' g'
    refine ((AttentionArray.array_eq m c).trans (funext fun j => ?_)).symm
    idx_vars j
    exact (AttentionReference.result_apply m' c _ _ _ (hagree c).1 (hagree c).2.1 (hagree c).2.2 j0 j1 j2).symm

end Cert.AttentionClaims

end
-- ==== Proof.FfnSpec.lean ====
/- The feed-forward step in plain formulas: one row of activations, the two gate products, the down product,
   the residual sum and the layer normalisation, over the extended reals. Both programs are read as `row`. -/
module

public import Idealize.ShloMosaic.PureOps.Ideal

@[expose] public section

noncomputable section

namespace Cert.FfnSpec

open Idealize.ShloMosaic

/-- The logistic weight of a gate value. -/
def sigmoid (h : EReal) : EReal := Ideal.div 1 (1 + Ideal.exp (-h))

/-- A gate product: row `x` against column `f` of `w`. -/
def proj {n d : ℕ} (x : Fin d → EReal) (w : Fin d → Fin n → EReal) (f : Fin n) : EReal := ∑ k, x k * w k f

/-- The gated activation at feature `f`: `silu (x·w₁) · (x·w₃)`. -/
def hidden (x : Fin 1024 → EReal) (w1 w3 : Fin 1024 → Fin 2816 → EReal) (f : Fin 2816) : EReal :=
  proj x w1 f * sigmoid (proj x w1 f) * proj x w3 f

/-- The residual sum before normalisation: `α x + ½ (hidden · w₂)`, with the programs' words for `α` and `½`. -/
def mixed (x : Fin 1024 → EReal) (w1 w3 : Fin 1024 → Fin 2816 → EReal) (w2 : Fin 2816 → Fin 1024 → EReal)
    (c : Fin 1024) : EReal :=
  Ideal.ofBits .f32 0x3FB504F3#32 * x c + Ideal.ofBits .f32 0x3F000000#32 * proj (hidden x w1 w3) w2 c

/-- The mean of a row of 1024 entries. -/
def mean (y : Fin 1024 → EReal) : EReal := Ideal.div (∑ k, y k) (Ideal.ofBits .f32 0x44800000#32)

/-- Layer normalisation of a row, with gain `g` and bias `b`. -/
def layerNorm (y g b : Fin 1024 → EReal) (c : Fin 1024) : EReal :=
  (y c - mean y) * Ideal.rsqrt (mean (fun k => (y k - mean y) * (y k - mean y)) + Ideal.ofBits .f32 0x3727C5AC#32) * g c + b c

/-- One row of the feed-forward step. -/
def row (x : Fin 1024 → EReal) (w1 w3 : Fin 1024 → Fin 2816 → EReal) (w2 : Fin 2816 → Fin 1024 → EReal)
    (g b : Fin 1024 → EReal) : Fin 1024 → EReal :=
  layerNorm (mixed x w1 w3 w2) g b

/-- Rows of equal entries give equal rows. -/
theorem row_congr {x x' : Fin 1024 → EReal} {w1 w1' w3 w3' : Fin 1024 → Fin 2816 → EReal} {w2 w2' : Fin 2816 → Fin 1024 → EReal}
    {g g' b b' : Fin 1024 → EReal} (hx : ∀ k, x k = x' k) (h1 : ∀ k f, w1 k f = w1' k f) (h3 : ∀ k f, w3 k f = w3' k f)
    (h2 : ∀ f k, w2 f k = w2' f k) (hg : ∀ k, g k = g' k) (hb : ∀ k, b k = b' k) (c : Fin 1024) :
    row x w1 w3 w2 g b c = row x' w1' w3' w2' g' b' c := by
  rw [funext hx, funext fun k => funext (h1 k), funext fun k => funext (h3 k), funext fun f => funext (h2 f), funext hg, funext hb]

end Cert.FfnSpec

end
-- ==== Proof.FfnKernel.lean ====
/- What one point of the feed-forward call computes from its block of 512 rows: eleven stripes of 256 features are kept
   in scratch, and the down product, the residual sum and the normalisation read them back. -/
module
public import proofs.«01_k».proof.Proof.FfnSpec
public import proofs.«01_k».proof.Proof.Gen.FfnIdeal.Value
public import Idealize.ShloMosaic.Lib.Pointwise
public import Idealize.ShloMosaic.Lib.ValueIdx
public import Idealize.ShloMosaic.Lib.Pipeline.ValueKit
@[expose] public section
set_option maxRecDepth 16384
noncomputable section
namespace Cert.FfnKernel
open Cert.FfnIdeal Cert.FfnIdeal.Gen Idealize.ShloMosaic Idealize.ShloMosaic.TcCoe Idealize.SL.Sem

/-- One stripe of 256 features of the gated activations, as the kernel computes it from the activations and the two
    matching column stripes of the gate weights. -/
def stripe (x : FVec Ideal S512x1024 .f32) (u v : FVec Ideal S1024x256 .bf16) : FVec Ideal S512x256 .bf16 := k0_pay3 x u v

theorem stripe_apply (x : FVec Ideal S512x1024 .f32) (u v : FVec Ideal S1024x256 .bf16) (r : Fin 512) (f : Fin 256) :
    stripe x u v (ix2 r f) = FfnSpec.proj (fun k => x (ix2 r k)) (fun k f => u (ix2 k f)) f
      * FfnSpec.sigmoid (FfnSpec.proj (fun k => x (ix2 r k)) (fun k f => u (ix2 k f)) f)
      * FfnSpec.proj (fun k => x (ix2 r k)) (fun k f => v (ix2 k f)) f := by
  pointwise [stripe, k0_pay3, k0_pay2, FfnSpec.proj, FfnSpec.sigmoid, zero_sub]

/-- The gated activations of a block of 512 rows. -/
def acts (x : FVec Ideal S512x1024 .f32) (w1 w3 : FVec Ideal S1024x2816 .bf16) : FVec Ideal S512x2816 .bf16 := fun j =>
  FfnSpec.hidden (fun k => x (ix2 (j 0) k)) (fun k f => w1 (ix2 k f)) (fun k f => w3 (ix2 k f)) (j 1)

theorem piece_apply (x : FVec Ideal S512x1024 .f32) (w1 w3 : FVec Ideal S1024x2816 .bf16) (o : ℕ)
    (inb : ∀ a, (![0, o] : Fin 2 → ℕ) a + S1024x256.size a ≤ S1024x2816.size a)
    (inb' : ∀ a, (![0, o] : Fin 2 → ℕ) a + S512x256.size a ≤ S512x2816.size a) (j : S512x256.Idx) :
    stripe x (View.ld (Val := Elt Ideal) (e' := .bf16) w1 (Rect.unit ![0, o] S1024x256.size inb)) (View.ld (Val := Elt Ideal) (e' := .bf16) w3 (Rect.unit ![0, o] S1024x256.size inb)) j
      = acts x w1 w3 ((Rect.unit (s := S512x2816) ![0, o] S512x256.size inb').emb j) := by
  idx_vars j
  rw [stripe_apply]
  have he : (Rect.unit (s := S512x2816) ![0, o] S512x256.size inb').emb (ix2 j0 j1 : S512x256.Idx)
      = (ix2 j0 ⟨o + j1.val, lt_of_lt_of_le (Nat.add_lt_add_left j1.isLt o) (inb' 1)⟩ : S512x2816.Idx) := by
    blk_ext
  rw [he]
  unfold acts FfnSpec.hidden FfnSpec.proj
  pointwise []

/-- A buffer of 512 rows filled stripe by stripe reads back as the array every stripe was cut from. -/
theorem readCov_of_pieces (v : View sig .tc .vmem S512x2816 .bf16) (G : FVec Ideal S512x2816 .bf16)
    (L : List (View.Piece (Elt Ideal) S512x2816 .bf16)) (inb : ∀ a, (![0, 0] : Fin 2 → ℕ) a + S512x2816.size a ≤ S512x2816.size a)
    (hG : ∀ p ∈ L, ∀ j : p.1.shape.Idx, p.2 j = G (p.1.emb j)) (hc : ∀ y, ∃ p ∈ L, y ∈ p.1.set) :
    v.readCov L (Rect.unit (s := S512x2816) ![0, 0] S512x2816.size inb).toLoadRect = G := by
  rw [View.readCov_eq_canon']
  funext j
  rw [View.canon_apply_of_pieces G L hG _ (hc _)]
  refine congrArg G (funext fun a => Fin.ext ?_)
  show (![0, 0] : Fin 2 → ℕ) a + 1 * (j a).val = (j a).val
  have := inb a
  omega

theorem block_apply (c : Dev nD) (i : grid0.Coords) (arg1 : Memref sig .tc .vmem S512x1024 .f32) (harg1 : arg1.IsWhole) (arg2 : Memref sig .tc .vmem S1024x2816 .bf16) (harg2 : arg2.IsWhole) (arg3 : Memref sig .tc .vmem S1024x2816 .bf16) (harg3 : arg3.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x2816 .bf16) (harg8 : arg8.IsWhole)
    (x0 : FVec Ideal S512x1024 .f32) (x1 : FVec Ideal S1024x2816 .bf16) (x2 : FVec Ideal S1024x2816 .bf16) (x3 : FVec Ideal S2816x1024 .bf16) (x4 : FVec Ideal S1x1024 .f32) (x5 : FVec Ideal S1x1024 .f32) (r : Fin 512) (f : Fin 1024) :
  out0_A_6 (F := Ideal) c i arg1 harg1 arg2 harg2 arg3 harg3 arg4 harg4 arg5 harg5 arg6 harg6 arg7 harg7 arg8 harg8 x0 x1 x2 x3 x4 x5 (ix2 r f) = FfnSpec.row (fun k => x0 (ix2 r k)) (fun k f => x1 (ix2 k f)) (fun k f => x2 (ix2 k f))
      (fun f k => x3 (ix2 f k)) (fun k => x4 (ix2 0 k)) (fun k => x5 (ix2 0 k)) f := by
  frame_out
  rw [readCov_of_pieces (G := acts x0 x1 x2)]
  · pointwise [k0_pay1, k0_pay28, k0_pay29, k0_pay30, FfnSpec.row, FfnSpec.layerNorm, FfnSpec.mean, FfnSpec.mixed, FfnSpec.proj, acts]
  · simp only [List.forall_mem_cons]
    refine ⟨?_, ?_, ?_, ?_, ?_, ?_, ?_, ?_, ?_, ?_, ?_, fun _ h => absurd h List.not_mem_nil⟩
    all_goals exact piece_apply x0 x1 x2 _ _ _
  · exact View.cover_of_tiledL _ S512x256.size (by sl_kernel_rfl)
end Cert.FfnKernel
end
-- ==== Proof.FfnArray.lean ====
/- The feed-forward call's result array: from the blocks its points write, row by row the step of `FfnSpec`. -/
module
public import proofs.«01_k».proof.Proof.FfnKernel
@[expose] public section
set_option maxRecDepth 16384
noncomputable section
namespace Cert.FfnArray
open Cert.FfnIdeal Cert.FfnIdeal.Gen Idealize.ShloMosaic Idealize.ShloMosaic.TcCoe Idealize.SL.Sem
open Idealize.ShloMosaic.Pipeline (Dat)

/-- Where each window's block sits: the activations and the result move down 512 rows a point, the weights, gain and bias stay. -/
theorem index_maps : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] ∧ t.val < 64 :=
  (by decide +kernel : ∀ t : Fin grid0.N, _)

/-- The result array: every row is the feed-forward step of the same row of the activations. -/
def G (X : FVec Ideal S32768x1024 .f32) (W1 W3 : FVec Ideal S1024x2816 .f32) (W2 : FVec Ideal S2816x1024 .f32)
    (g b : FVec Ideal S1024 .f32) : FVec Ideal S32768x1024 .f32 := fun j =>
  FfnSpec.row (fun k => X (ix2 (j 0) k)) (fun k f => W1 (ix2 k f)) (fun k f => W3 (ix2 k f)) (fun f k => W2 (ix2 f k))
    (fun k => g (ix1 k)) (fun k => b (ix1 k)) (j 1)

variable (m : (ℓ : Loc nD τ sig) → Buf (Elt Ideal) ℓ)

/-- Point `t` reads rows `512 t` to `512 t + 511` of the activations. -/
theorem rows_read (c : Dev nD) (t : Fin cfg0.N) (r : Fin 512) (k : Fin 1024) (h : t.val * 512 + r.val < 32768) :
    (show FVec Ideal S512x1024 .f32 from iblk m c 0 t) (ix2 r k)
      = (show FVec Ideal S32768x1024 .f32 from m ((c : Thread nD τ).loc main_arg0)) (ix2 ⟨t.val * 512 + r.val, h⟩ k) := by
  blk_ext [iblk, V, index_maps t]

/-- Every point reads the whole first gate weight. -/
theorem gate1_read (c : Dev nD) (t : Fin cfg0.N) (k : Fin 1024) (f : Fin 2816) :
    (show FVec Ideal S1024x2816 .bf16 from iblk m c 1 t) (ix2 k f)
      = (show FVec Ideal S1024x2816 .f32 from m ((c : Thread nD τ).loc main_arg1)) (ix2 k f) := by
  blk_simp [iblk]
  entry_read
  blk_ext [iblk, V, index_maps t]

/-- Every point reads the whole second gate weight. -/
theorem gate2_read (c : Dev nD) (t : Fin cfg0.N) (k : Fin 1024) (f : Fin 2816) :
    (show FVec Ideal S1024x2816 .bf16 from iblk m c 2 t) (ix2 k f)
      = (show FVec Ideal S1024x2816 .f32 from m ((c : Thread nD τ).loc main_arg2)) (ix2 k f) := by
  blk_simp [iblk]
  entry_read
  blk_ext [iblk, V, index_maps t]

/-- Every point reads the whole down weight. -/
theorem down_read (c : Dev nD) (t : Fin cfg0.N) (f : Fin 2816) (k : Fin 1024) :
    (show FVec Ideal S2816x1024 .bf16 from iblk m c 3 t) (ix2 f k)
      = (show FVec Ideal S2816x1024 .f32 from m ((c : Thread nD τ).loc main_arg3)) (ix2 f k) := by
  blk_simp [iblk]
  entry_read
  blk_ext [iblk, V, index_maps t]

/-- Every point reads the gain row. -/
theorem gain_read (c : Dev nD) (t : Fin cfg0.N) (k : Fin 1024) :
    (show FVec Ideal S1x1024 .f32 from iblk m c 4 t) (ix2 0 k)
      = (show FVec Ideal S1024 .f32 from m ((c : Thread nD τ).loc main_arg4)) (ix1 k) := by
  blk_simp [iblk]
  entry_read
  pointwise []
  blk_ext [iblk, V, index_maps t]

/-- … and the bias row. -/
theorem bias_read (c : Dev nD) (t : Fin cfg0.N) (k : Fin 1024) :
    (show FVec Ideal S1x1024 .f32 from iblk m c 5 t) (ix2 0 k)
      = (show FVec Ideal S1024 .f32 from m ((c : Thread nD τ).loc main_arg5)) (ix1 k) := by
  blk_simp [iblk]
  entry_read
  pointwise []
  blk_ext [iblk, V, index_maps t]

/-- The result array is the feed-forward step of the arguments. -/
theorem array_eq (c : Dev nD) : (dats m 0 c).arrAt 6 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  unfold outsAt0
  idx_vars y
  refine (FfnKernel.block_apply c _ _ _ _ _ _ _ _ _ _ _ _ _ _ _ _ _ _ _ _ _ _ _ y0 y1).trans ?_
  have ht := (index_maps t).2.2.2.2.2.2.2
  have he : ((View.whole main_v5).slice (win0_6.rect t)).emb (ix2 y0 y1)
      = (ix2 ⟨t.val * 512 + y0.val, by omega⟩ y1 : S32768x1024.Idx) := by
    blk_ext [index_maps t]
  rw [he]
  exact FfnSpec.row_congr (fun k => rows_read m c t y0 k _) (gate1_read m c t) (gate2_read m c t) (down_read m c t)
    (gain_read m c t) (bias_read m c t) y1

end Cert.FfnArray

end
-- ==== Proof.FfnReference.lean ====
/- What the feed-forward reference computes: every row of its result is the step of `FfnSpec`. -/
module
public import proofs.«01_k».proof.Proof.FfnSpec
public import proofs.«01_k».proof.Proof.Gen.FfnRefIdeal.Run
public import Idealize.ShloMosaic.Lib.Pointwise
public import Idealize.ShloMosaic.Lib.ValueIdx
@[expose] public section
set_option maxRecDepth 16384
noncomputable section
namespace Cert.FfnReference
open Cert.FfnRefIdeal Cert.FfnRefIdeal.Gen Idealize.ShloMosaic Idealize.ShloMosaic.TcCoe Idealize.SL.Sem

/-- The reference's result at row `r`, column `c`, is the feed-forward step of row `r`. -/
theorem result_apply (m : (ℓ : Loc nD τ sig) → Buf (Elt Ideal) ℓ) (d : Dev nD)
    (X : FVec Ideal S32768x1024 .f32) (W1 W3 : FVec Ideal S1024x2816 .f32) (W2 : FVec Ideal S2816x1024 .f32) (G B : FVec Ideal S1024 .f32)
    (hX : m ((d.tc : Thread nD τ).loc main_arg0) = X) (h1 : m ((d.tc : Thread nD τ).loc main_arg1) = W1)
    (h3 : m ((d.tc : Thread nD τ).loc main_arg2) = W3) (h2 : m ((d.tc : Thread nD τ).loc main_arg3) = W2)
    (hG : m ((d.tc : Thread nD τ).loc main_arg4) = G) (hB : m ((d.tc : Thread nD τ).loc main_arg5) = B)
    (r : Fin 32768) (c : Fin 1024) :
    (Value.res_out0 m d : FVec Ideal S32768x1024 .f32) (ix2 r c) = FfnSpec.row (fun k => X (ix2 r k)) (fun k f => W1 (ix2 k f)) (fun k f => W3 (ix2 k f))
      (fun f k => W2 (ix2 f k)) (fun k => G (ix1 k)) (fun k => B (ix1 k)) c := by
  unfold Value.res_out0 Value.res_main_v33
  rw [hX, h1, h2, h3, hG, hB]
  pointwise [FfnSpec.row, FfnSpec.layerNorm, FfnSpec.mean, FfnSpec.mixed, FfnSpec.proj, FfnSpec.hidden, FfnSpec.sigmoid]
end Cert.FfnReference
end
-- ==== Proof.FfnClaims.lean ====
/- The claims about the feed-forward call: its idealization keeps every operation, and over the extended reals it
   computes the reference's step. -/
module

public import proofs.«01_k».proof.Defs
public import proofs.«01_k».proof.Proof.FfnArray
public import proofs.«01_k».proof.Proof.FfnReference
public import proofs.«01_k».proof.Proof.Gen.Ffn.Frame
public import Idealize.ShloMosaic.Lib.Claim

@[expose] public section

set_option maxRecDepth 16384

noncomputable section

namespace Cert.FfnClaims

open Idealize.ShloMosaic Idealize.SL.Sem

/-- The kernel ends, leaving its arguments unchanged. -/
theorem frame_kernel : Cert.quiescent_Ffn := by
  intro m g _
  exact Cert.Ffn.Gen.frame m g

/-- So does its idealization. -/
theorem frame_ideal : Cert.quiescent_FfnIdeal := by
  intro m g _
  exact Cert.FfnIdeal.Gen.frame m g

/-- So does the reference. -/
theorem frame_reference : Cert.quiescent_FfnRefIdeal := by
  intro m g _
  hlo_run
  · exact fun _ => ⟨trivial, trivial, trivial, trivial, trivial, trivial⟩
  · exact sem_eq_zero_of_no_sems (by rfl) _

/-- The idealization changes nothing. -/
theorem preserves : Cert.preserves_Ffn_FfnIdeal := trivial

/-- The kernel's result array is the reference's, for all inputs and weights. -/
theorem algebraic : Cert.algebraic_FfnIdeal_FfnRefIdeal := by
  pair_intro
  · run_from Cert.FfnIdeal.Gen.run_main m g
  · run_from Cert.FfnRefIdeal.Value.run m' g'
    refine ((FfnArray.array_eq m c).trans (funext fun j => ?_)).symm
    idx_vars j
    exact (FfnReference.result_apply m' c _ _ _ _ _ _ (hagree c).1 (hagree c).2.1 (hagree c).2.2.1 (hagree c).2.2.2.1
      (hagree c).2.2.2.2.1 (hagree c).2.2.2.2.2 j0 j1).symm

end Cert.FfnClaims

end
-- ==== Proof.OutProjSpec.lean ====
/- The output projection as one formula: the four groups of a row are each divided by their root mean square, projected,
   added to the scaled residual and normalised. The two programs cut the row into groups differently; both cuts agree. -/
module
public import proofs.«01_k».proof.Proof.FfnSpec
@[expose] public section
noncomputable section
namespace Cert.OutProjSpec
open Idealize.ShloMosaic

/-- A group of 256 entries. -/
abbrev Group := Fin 256 → EReal

/-- The reciprocal root mean square of a group. -/
def scale (a : Group) : EReal :=
  Ideal.rsqrt (Ideal.div (∑ k, a k * a k) (Ideal.ofBits .f32 0x43800000#32) + Ideal.ofBits .f32 0x358637BD#32)

/-- Entry `j` of the row made of four groups. -/
def pick (a b c d : Group) (j : Fin 1024) : EReal :=
  if h : j.val < 256 then a ⟨j.val, h⟩ else if h : j.val - 256 < 256 then b ⟨j.val - 256, h⟩
  else if h : j.val - 256 - 256 < 256 then c ⟨j.val - 256 - 256, h⟩ else d ⟨j.val - 256 - 256 - 256, by omega⟩

/-- The normalised row, group by group. -/
def byGroup (a b c d : Group) (gg : Fin 1024 → EReal) (j : Fin 1024) : EReal :=
  if h : j.val < 256 then a ⟨j.val, h⟩ * scale a * gg j
  else if h : j.val - 256 < 256 then b ⟨j.val - 256, h⟩ * scale b * gg ⟨256 + (j.val - 256), by omega⟩
  else if h : j.val - 256 - 256 < 256 then c ⟨j.val - 256 - 256, h⟩ * scale c * gg ⟨512 + (j.val - 256 - 256), by omega⟩
  else d ⟨j.val - 256 - 256 - 256, by omega⟩ * scale d * gg ⟨768 + (j.val - 256 - 256 - 256), by omega⟩

/-- The normalised row, entry by entry: each entry is scaled by the group it lies in. -/
def byEntry (a b c d : Group) (gg : Fin 1024 → EReal) (j : Fin 1024) : EReal :=
  pick a b c d j * scale (fun k => pick a b c d ⟨j.val / 256 * 256 + k.val, by omega⟩) * gg j

/-- An entry's group, read through the row, is one of the four. -/
theorem pick_group (a b c d e : Group) (q : ℕ) (hq : q < 4) (he : (q = 0 → e = a) ∧ (q = 1 → e = b) ∧ (q = 2 → e = c) ∧ (q = 3 → e = d)) :
    (fun k : Fin 256 => pick a b c d ⟨q * 256 + k.val, by omega⟩) = e := by
  funext k
  obtain ⟨h0, h1, h2, h3⟩ := he
  unfold pick
  rcases (by omega : q = 0 ∨ q = 1 ∨ q = 2 ∨ q = 3) with rfl | rfl | rfl | rfl
  · rw [h0 rfl, dif_pos (show 0 * 256 + k.val < 256 by omega)]
    exact congrArg a (Fin.ext (show 0 * 256 + k.val = k.val by omega))
  · rw [h1 rfl, dif_neg (show ¬ 1 * 256 + k.val < 256 by omega), dif_pos (show 1 * 256 + k.val - 256 < 256 by omega)]
    exact congrArg b (Fin.ext (show 1 * 256 + k.val - 256 = k.val by omega))
  · rw [h2 rfl, dif_neg (show ¬ 2 * 256 + k.val < 256 by omega), dif_neg (show ¬ 2 * 256 + k.val - 256 < 256 by omega),
      dif_pos (show 2 * 256 + k.val - 256 - 256 < 256 by omega)]
    exact congrArg c (Fin.ext (show 2 * 256 + k.val - 256 - 256 = k.val by omega))
  · rw [h3 rfl, dif_neg (show ¬ 3 * 256 + k.val < 256 by omega), dif_neg (show ¬ 3 * 256 + k.val - 256 < 256 by omega),
      dif_neg (show ¬ 3 * 256 + k.val - 256 - 256 < 256 by omega)]
    exact congrArg d (Fin.ext (show 3 * 256 + k.val - 256 - 256 - 256 = k.val by omega))

/-- The two cuts agree. -/
theorem byEntry_eq (a b c d : Group) (gg : Fin 1024 → EReal) : byEntry a b c d gg = byGroup a b c d gg := by
  funext j
  have hj := j.isLt
  unfold byEntry byGroup
  by_cases h0 : j.val < 256
  · rw [dif_pos h0, pick_group a b c d a (j.val / 256) (by omega) ⟨fun _ => rfl, by omega, by omega, by omega⟩]
    unfold pick; rw [dif_pos h0]
  rw [dif_neg h0]
  by_cases h1 : j.val - 256 < 256
  · rw [dif_pos h1, pick_group a b c d b (j.val / 256) (by omega) ⟨by omega, fun _ => rfl, by omega, by omega⟩]
    unfold pick; rw [dif_neg h0, dif_pos h1]
    exact congrArg _ (congrArg gg (Fin.ext (show j.val = 256 + (j.val - 256) by omega)))
  rw [dif_neg h1]
  by_cases h2 : j.val - 256 - 256 < 256
  · rw [dif_pos h2, pick_group a b c d c (j.val / 256) (by omega) ⟨by omega, by omega, fun _ => rfl, by omega⟩]
    unfold pick; rw [dif_neg h0, dif_neg h1, dif_pos h2]
    exact congrArg _ (congrArg gg (Fin.ext (show j.val = 512 + (j.val - 256 - 256) by omega)))
  · rw [dif_neg h2, pick_group a b c d d (j.val / 256) (by omega) ⟨by omega, by omega, by omega, fun _ => rfl⟩]
    unfold pick; rw [dif_neg h0, dif_neg h1, dif_neg h2]
    exact congrArg _ (congrArg gg (Fin.ext (show j.val = 768 + (j.val - 256 - 256 - 256) by omega)))

/-- One row of the step, from its normalised mixing row `n` and the residual row `x`. -/
def row (n x : Fin 1024 → EReal) (w : Fin 1024 → Fin 1024 → EReal) (g b : Fin 1024 → EReal) : Fin 1024 → EReal :=
  FfnSpec.layerNorm (fun c => Ideal.ofBits .f32 0x3FB504F3#32 * x c + FfnSpec.proj n w c) g b

/-- Rows of equal entries give equal rows. -/
theorem row_congr {a a' b b' c c' d d' : Group} {gg gg' x x' g g' h h' : Fin 1024 → EReal} {w w' : Fin 1024 → Fin 1024 → EReal}
    (ha : ∀ k, a k = a' k) (hb : ∀ k, b k = b' k) (hc : ∀ k, c k = c' k) (hd : ∀ k, d k = d' k) (hx : ∀ k, x k = x' k)
    (hgg : ∀ k, gg k = gg' k) (hw : ∀ k f, w k f = w' k f) (hg : ∀ k, g k = g' k) (hh : ∀ k, h k = h' k) (f : Fin 1024) :
    row (byGroup a b c d gg) x w g h f = row (byGroup a' b' c' d' gg') x' w' g' h' f := by
  rw [funext ha, funext hb, funext hc, funext hd, funext hx, funext hgg, funext fun k => funext (hw k), funext hg, funext hh]
end Cert.OutProjSpec
end
-- ==== Proof.OutProjKernel.lean ====
/- What one point of the output projection computes from its block of 512 rows. -/
module
public import proofs.«01_k».proof.Proof.OutProjSpec
public import proofs.«01_k».proof.Proof.Gen.OutProjIdeal.Value
public import Idealize.ShloMosaic.Lib.Pointwise
public import Idealize.ShloMosaic.Lib.ValueIdx
public import Idealize.ShloMosaic.Lib.Pipeline.ValueKit
@[expose] public section
set_option maxRecDepth 16384
noncomputable section
namespace Cert.OutProjKernel
open Cert.OutProjIdeal Cert.OutProjIdeal.Gen Idealize.ShloMosaic Idealize.ShloMosaic.TcCoe Idealize.SL.Sem

/-- Row `r` of a block is the output projection of the same row of its inputs. -/
theorem block_apply (x0 x1 x2 x3 : FVec Ideal S512x256 .f32) (x4 : FVec Ideal S512x1024 .f32) (x5 : FVec Ideal S1x1024 .f32)
    (x6 : FVec Ideal S1024x1024 .bf16) (x7 x8 : FVec Ideal S1x1024 .f32) (r : Fin 512) (f : Fin 1024) :
    out0_9 (F := Ideal) x0 x1 x2 x3 x4 x5 x6 x7 x8 (ix2 r f)
      = OutProjSpec.row (OutProjSpec.byGroup (fun k => x0 (ix2 r k)) (fun k => x1 (ix2 r k)) (fun k => x2 (ix2 r k)) (fun k => x3 (ix2 r k))
          (fun k => x5 (ix2 0 k))) (fun k => x4 (ix2 r k)) (fun k f => x6 (ix2 k f)) (fun k => x7 (ix2 0 k)) (fun k => x8 (ix2 0 k)) f := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16,
    OutProjSpec.row, OutProjSpec.byGroup, OutProjSpec.scale, FfnSpec.layerNorm, FfnSpec.mean, FfnSpec.proj]
end Cert.OutProjKernel
end
-- ==== Proof.OutProjArray.lean ====
/- The output projection's result array: from the blocks its points write, row by row the step of `OutProjSpec`. -/
module
public import proofs.«01_k».proof.Proof.OutProjKernel
@[expose] public section
set_option maxRecDepth 16384
noncomputable section
namespace Cert.OutProjArray
open Cert.OutProjIdeal Cert.OutProjIdeal.Gen Idealize.ShloMosaic Idealize.ShloMosaic.TcCoe Idealize.SL.Sem
open Idealize.ShloMosaic.Pipeline (Dat)

/-- Where each window's block sits: the groups, the residual and the result move down 512 rows a point, the rest stays. -/
theorem index_maps : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![t.val, 0] ∧ t.val < 64 :=
  (by decide +kernel : ∀ t : Fin grid0.N, _)

/-- The result array: every row is the output projection of the same row of the arguments. -/
def G (A B C D : FVec Ideal S32768x256 .f32) (X : FVec Ideal S32768x1024 .f32) (GG : FVec Ideal S1024 .f32) (W : FVec Ideal S1024x1024 .f32)
    (g b : FVec Ideal S1024 .f32) : FVec Ideal S32768x1024 .f32 := fun j =>
  OutProjSpec.row (OutProjSpec.byGroup (fun k => A (ix2 (j 0) k)) (fun k => B (ix2 (j 0) k)) (fun k => C (ix2 (j 0) k)) (fun k => D (ix2 (j 0) k))
    (fun k => GG (ix1 k))) (fun k => X (ix2 (j 0) k)) (fun k f => W (ix2 k f)) (fun k => g (ix1 k)) (fun k => b (ix1 k)) (j 1)

variable (m : (ℓ : Loc nD τ sig) → Buf (Elt Ideal) ℓ)

/-- Point `t` reads rows `512 t` to `512 t + 511` of the first group. -/
theorem group0_read (c : Dev nD) (t : Fin cfg0.N) (r : Fin 512) (k : Fin 256) (h : t.val * 512 + r.val < 32768) :
    (show FVec Ideal S512x256 .f32 from iblk m c 0 t) (ix2 r k)
      = (show FVec Ideal S32768x256 .f32 from m ((c : Thread nD τ).loc main_arg0)) (ix2 ⟨t.val * 512 + r.val, h⟩ k) := by
  blk_ext [iblk, V, index_maps t]

/-- Point `t` reads rows `512 t` to `512 t + 511` of the second group. -/
theorem group1_read (c : Dev nD) (t : Fin cfg0.N) (r : Fin 512) (k : Fin 256) (h : t.val * 512 + r.val < 32768) :
    (show FVec Ideal S512x256 .f32 from iblk m c 1 t) (ix2 r k)
      = (show FVec Ideal S32768x256 .f32 from m ((c : Thread nD τ).loc main_arg1)) (ix2 ⟨t.val * 512 + r.val, h⟩ k) := by
  blk_ext [iblk, V, index_maps t]

/-- Point `t` reads rows `512 t` to `512 t + 511` of the third group. -/
theorem group2_read (c : Dev nD) (t : Fin cfg0.N) (r : Fin 512) (k : Fin 256) (h : t.val * 512 + r.val < 32768) :
    (show FVec Ideal S512x256 .f32 from iblk m c 2 t) (ix2 r k)
      = (show FVec Ideal S32768x256 .f32 from m ((c : Thread nD τ).loc main_arg2)) (ix2 ⟨t.val * 512 + r.val, h⟩ k) := by
  blk_ext [iblk, V, index_maps t]

/-- Point `t` reads rows `512 t` to `512 t + 511` of the fourth group. -/
theorem group3_read (c : Dev nD) (t : Fin cfg0.N) (r : Fin 512) (k : Fin 256) (h : t.val * 512 + r.val < 32768) :
    (show FVec Ideal S512x256 .f32 from iblk m c 3 t) (ix2 r k)
      = (show FVec Ideal S32768x256 .f32 from m ((c : Thread nD τ).loc main_arg3)) (ix2 ⟨t.val * 512 + r.val, h⟩ k) := by
  blk_ext [iblk, V, index_maps t]

/-- … and of the residual. -/
theorem residual_read (c : Dev nD) (t : Fin cfg0.N) (r : Fin 512) (k : Fin 1024) (h : t.val * 512 + r.val < 32768) :
    (show FVec Ideal S512x1024 .f32 from iblk m c 4 t) (ix2 r k)
      = (show FVec Ideal S32768x1024 .f32 from m ((c : Thread nD τ).loc main_arg4)) (ix2 ⟨t.val * 512 + r.val, h⟩ k) := by
  blk_ext [iblk, V, index_maps t]

/-- Every point reads the whole projection. -/
theorem weight_read (c : Dev nD) (t : Fin cfg0.N) (k : Fin 1024) (f : Fin 1024) :
    (show FVec Ideal S1024x1024 .bf16 from iblk m c 6 t) (ix2 k f)
      = (show FVec Ideal S1024x1024 .f32 from m ((c : Thread nD τ).loc main_arg6)) (ix2 k f) := by
  blk_simp [iblk]
  entry_read
  blk_ext [iblk, V, index_maps t]

/-- Every point reads the groups' gain row. -/
theorem groups_gain_read (c : Dev nD) (t : Fin cfg0.N) (k : Fin 1024) :
    (show FVec Ideal S1x1024 .f32 from iblk m c 5 t) (ix2 0 k)
      = (show FVec Ideal S1024 .f32 from m ((c : Thread nD τ).loc main_arg5)) (ix1 k) := by
  blk_simp [iblk]
  entry_read
  pointwise []
  blk_ext [iblk, V, index_maps t]

/-- Every point reads the gain row. -/
theorem gain_read (c : Dev nD) (t : Fin cfg0.N) (k : Fin 1024) :
    (show FVec Ideal S1x1024 .f32 from iblk m c 7 t) (ix2 0 k)
      = (show FVec Ideal S1024 .f32 from m ((c : Thread nD τ).loc main_arg7)) (ix1 k) := by
  blk_simp [iblk]
  entry_read
  pointwise []
  blk_ext [iblk, V, index_maps t]

/-- Every point reads the bias row. -/
theorem bias_read (c : Dev nD) (t : Fin cfg0.N) (k : Fin 1024) :
    (show FVec Ideal S1x1024 .f32 from iblk m c 8 t) (ix2 0 k)
      = (show FVec Ideal S1024 .f32 from m ((c : Thread nD τ).loc main_arg8)) (ix1 k) := by
  blk_simp [iblk]
  entry_read
  pointwise []
  blk_ext [iblk, V, index_maps t]

/-- The result array is the output projection of the arguments. -/
theorem array_eq (c : Dev nD) : (dats m 0 c).arrAt 9 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 9 _ (by decide +kernel) fun t _ y => ?_
  blk_simp
  rw [after0_9]
  idx_vars y
  refine (OutProjKernel.block_apply _ _ _ _ _ _ _ _ _ y0 y1).trans ?_
  have ht := (index_maps t).2.2.2.2.2.2.2.2.2.2
  have he : ((View.whole main_v4).slice (win0_9.rect t)).emb (ix2 y0 y1)
      = (ix2 ⟨t.val * 512 + y0.val, by omega⟩ y1 : S32768x1024.Idx) := by
    blk_ext [index_maps t]
  rw [he]
  exact OutProjSpec.row_congr (fun k => group0_read m c t y0 k _) (fun k => group1_read m c t y0 k _) (fun k => group2_read m c t y0 k _)
    (fun k => group3_read m c t y0 k _) (fun k => residual_read m c t y0 k _) (groups_gain_read m c t) (weight_read m c t)
    (gain_read m c t) (bias_read m c t) y1

end Cert.OutProjArray

end
-- ==== Proof.OutProjReference.lean ====
/- What the output projection's reference computes. -/
module
public import proofs.«01_k».proof.Proof.OutProjSpec
public import proofs.«01_k».proof.Proof.Gen.OutProjRefIdeal.Run
public import Idealize.ShloMosaic.Lib.Pointwise
public import Idealize.ShloMosaic.Lib.ValueIdx
@[expose] public section
set_option maxRecDepth 16384
noncomputable section
namespace Cert.OutProjReference
open Cert.OutProjRefIdeal Cert.OutProjRefIdeal.Gen Idealize.ShloMosaic Idealize.ShloMosaic.TcCoe Idealize.SL.Sem

/-- The reference's result at row `r`, column `c`. -/
theorem result_apply (m : (ℓ : Loc nD τ sig) → Buf (Elt Ideal) ℓ) (d : Dev nD)
    (A B C D : FVec Ideal S32768x256 .f32) (X : FVec Ideal S32768x1024 .f32) (GG : FVec Ideal S1024 .f32) (W : FVec Ideal S1024x1024 .f32) (G H : FVec Ideal S1024 .f32)
    (hA : m ((d.tc : Thread nD τ).loc main_arg0) = A) (hB : m ((d.tc : Thread nD τ).loc main_arg1) = B)
    (hC : m ((d.tc : Thread nD τ).loc main_arg2) = C) (hD : m ((d.tc : Thread nD τ).loc main_arg3) = D)
    (hX : m ((d.tc : Thread nD τ).loc main_arg4) = X) (hGG : m ((d.tc : Thread nD τ).loc main_arg5) = GG)
    (hW : m ((d.tc : Thread nD τ).loc main_arg6) = W) (hG : m ((d.tc : Thread nD τ).loc main_arg7) = G) (hH : m ((d.tc : Thread nD τ).loc main_arg8) = H)
    (r : Fin 32768) (c : Fin 1024) :
    (Value.res_out0 m d : FVec Ideal S32768x1024 .f32) (ix2 r c)
      = OutProjSpec.row (OutProjSpec.byGroup (fun k => A (ix2 r k)) (fun k => B (ix2 r k)) (fun k => C (ix2 r k)) (fun k => D (ix2 r k))
          (fun k => GG (ix1 k))) (fun k => X (ix2 r k)) (fun k f => W (ix2 k f)) (fun k => G (ix1 k)) (fun k => H (ix1 k)) c := by
  rw [← OutProjSpec.byEntry_eq]
  unfold Value.res_out0
  unfold Value.res_main_v44
  rw [hA, hB, hC, hD, hX, hGG, hW, hG, hH]
  pointwise [OutProjSpec.row, OutProjSpec.byEntry, OutProjSpec.pick, OutProjSpec.scale, FfnSpec.layerNorm, FfnSpec.mean, FfnSpec.proj]
end Cert.OutProjReference
end
-- ==== Proof.OutProjClaims.lean ====
/- The claims about the output projection: its idealization keeps every operation, and over the extended reals it
   computes the reference's step. -/
module

public import proofs.«01_k».proof.Defs
public import proofs.«01_k».proof.Proof.OutProjArray
public import proofs.«01_k».proof.Proof.OutProjReference
public import proofs.«01_k».proof.Proof.Gen.OutProj.Frame
public import Idealize.ShloMosaic.Lib.Claim

@[expose] public section

set_option maxRecDepth 16384

noncomputable section

namespace Cert.OutProjClaims

open Idealize.ShloMosaic Idealize.SL.Sem

/-- The kernel ends, leaving its arguments unchanged. -/
theorem frame_kernel : Cert.quiescent_OutProj := by
  intro m g _
  exact Cert.OutProj.Gen.frame m g

/-- So does its idealization. -/
theorem frame_ideal : Cert.quiescent_OutProjIdeal := by
  intro m g _
  exact Cert.OutProjIdeal.Gen.frame m g

/-- So does the reference. -/
theorem frame_reference : Cert.quiescent_OutProjRefIdeal := by
  intro m g _
  hlo_run
  · exact fun _ => ⟨trivial, trivial, trivial, trivial, trivial, trivial, trivial, trivial, trivial⟩
  · exact sem_eq_zero_of_no_sems (by rfl) _

/-- The idealization changes nothing. -/
theorem preserves : Cert.preserves_OutProj_OutProjIdeal := trivial

/-- The kernel's result array is the reference's, for all inputs and weights. -/
theorem algebraic : Cert.algebraic_OutProjIdeal_OutProjRefIdeal := by
  pair_intro
  · run_from Cert.OutProjIdeal.Gen.run_main m g
  · run_from Cert.OutProjRefIdeal.Value.run m' g'
    refine ((OutProjArray.array_eq m c).trans (funext fun j => ?_)).symm
    idx_vars j
    exact (OutProjReference.result_apply m' c _ _ _ _ _ _ _ _ _ (hagree c).1 (hagree c).2.1 (hagree c).2.2.1 (hagree c).2.2.2.1
      (hagree c).2.2.2.2.1 (hagree c).2.2.2.2.2.1 (hagree c).2.2.2.2.2.2.1 (hagree c).2.2.2.2.2.2.2.1 (hagree c).2.2.2.2.2.2.2.2 j0 j1).symm

end Cert.OutProjClaims

end
-- ==== Proof.StickSum.lean ====
/- Stick-breaking weights and their weighted sum, gathered block by block from the last block of keys to the first. -/
module
public import Idealize.ShloMosaic.PureOps
public import Idealize.ShloMosaic.Lib.Pointwise
public import proofs.«01_k».proof.Proof.OnlineSoftmax
@[expose] public section
noncomputable section
namespace Cert.StickSum
open Idealize.ShloMosaic

/-- `log (1 + exp (-|z|))`. -/
def tail (z : EReal) : EReal := Ideal.log1p (Ideal.exp (0 - max z (-z)))

/-- `log sigmoid(z)` and `log sigmoid(-z)`, the shares a key takes and leaves. -/
def taken (z : EReal) : EReal := min z 0 - tail z
def left (z : EReal) : EReal := 0 - max z 0 - tail z

variable (L B v : ℕ → EReal) (p N : ℕ)

/-- The sum of the terms from `lo` on. -/
def later (lo : ℕ) : EReal := ∑ j ∈ Finset.Ico lo N, L j

/-- The weight of key `j` for a query at position `p`: what it takes of what the later keys left. -/
def weight (j : ℕ) : EReal := if j < p then Ideal.exp (B j + later L N (j + 1)) else 0

/-- The weighted sum of the values from `lo` on. -/
def total (lo : ℕ) : EReal := ∑ j ∈ Finset.Ico lo N, weight L B p N j * v j

theorem sum_block (f : ℕ → EReal) (a : ℕ) : ∑ j ∈ Finset.Ico a (a + 256), f j = ∑ j : Fin 256, f (a + j.val) := by
  rw [Finset.sum_Ico_eq_sum_range, Nat.add_sub_cancel_left, Finset.sum_range]

theorem later_block (a : ℕ) (h : a + 256 ≤ N) : later L N a = later L N (a + 256) + ∑ j : Fin 256, L (a + j.val) := by
  rw [later, ← Finset.sum_Ico_consecutive _ (Nat.le_add_right a 256) h, sum_block, add_comm]; rfl

theorem total_block (a : ℕ) (h : a + 256 ≤ N) :
    total L B v p N a = total L B v p N (a + 256) + ∑ j : Fin 256, weight L B p N (a + j.val) * v (a + j.val) := by
  rw [total, ← Finset.sum_Ico_consecutive _ (Nat.le_add_right a 256) h, sum_block, add_comm]; rfl

/-- The later keys of a key's own block and those of the blocks after it. -/
theorem later_within (a : ℕ) (h : a + 256 ≤ N) (j : Fin 256) :
    (∑ i : Fin 256, if j < i then L (a + i.val) else 0) + later L N (a + 256) = later L N (a + j.val + 1) := by
  have h1 : (∑ i : Fin 256, if j < i then L (a + i.val) else 0) = ∑ i ∈ Finset.Ico (a + j.val + 1) (a + 256), L i := by
    have h2 : (∑ i : Fin 256, if j < i then L (a + i.val) else 0)
        = ∑ i : Fin 256, (fun n => if a + j.val < n then L n else 0) (a + i.val) :=
      Finset.sum_congr rfl fun i _ => by
        by_cases hji : j < i
        · rw [if_pos hji]; exact (if_pos (by have : j.val < i.val := hji; omega)).symm
        · rw [if_neg hji]; exact (if_neg (by have : ¬ j.val < i.val := hji; omega)).symm
    rw [h2, ← sum_block (fun n => if a + j.val < n then L n else 0) a]
    rw [← Finset.sum_filter]
    congr 1
    ext n; simp only [Finset.mem_filter, Finset.mem_Ico]; omega
  rw [h1]
  exact Finset.sum_Ico_consecutive _ (by omega) h

/-- Terms that are zero from `p` on may be left out. -/
theorem later_extend (M lo : ℕ) (hp : p ≤ N) (hN : N ≤ M) (h : ∀ j, p ≤ j → L j = 0) : later L M lo = later L N lo :=
  (Finset.sum_subset (Finset.Ico_subset_Ico_right hN) fun j _ hj => h j (by
    simp only [Finset.mem_Ico] at *; omega)).symm

theorem total_extend (M : ℕ) (hp : p ≤ N) (hN : N ≤ M) (h : ∀ j, p ≤ j → L j = 0) : total L B v p M 0 = total L B v p N 0 := by
  have hw : ∀ j, weight L B p M j = weight L B p N j := fun j => by
    unfold weight; rw [later_extend L p N M _ hp hN h]
  unfold total
  simp only [hw]
  refine (Finset.sum_subset (Finset.Ico_subset_Ico_right hN) fun j _ hj => ?_).symm
  rw [weight, if_neg (by simp only [Finset.mem_Ico] at *; omega), zero_mul]

/-- The later terms as a sum over all of them. -/
theorem later_eq (M : ℕ) (j : Fin M) : later L M (j.val + 1) = ∑ i : Fin M, if j < i then L i.val else 0 := by
  have h : (∑ i : Fin M, if j < i then L i.val else 0) = ∑ n ∈ Finset.range M, if j.val < n then L n else 0 :=
    (Finset.sum_range fun n => if j.val < n then L n else 0).symm
  rw [h, later, ← Finset.sum_filter]
  congr 1
  ext n; simp only [Finset.mem_filter, Finset.mem_Ico, Finset.mem_range]; omega

/-- A sum with a term `⊥` is `⊥`. -/
theorem sum_bot {ι : Type} [Fintype ι] [DecidableEq ι] (f : ι → EReal) (i : ι) (h : f i = ⊥) : ∑ j, f j = ⊥ := by
  rw [← Finset.add_sum_erase Finset.univ f (Finset.mem_univ i), h, EReal.bot_add]

/-- A term split in three parts, each the rest of what the ones before it hold, against the triangle of later keys: the sum
    of the later terms. The rests of a real term are zero; a term `⊥` makes both sides `⊥`. -/
theorem split_sum (f : Fin 256 → EReal) (tri : Fin 256 → Fin 256 → EReal) (htri : ∀ i j, tri i j = if j < i then 1 else 0)
    (hf : ∀ i, f i ≠ ⊤) (j : Fin 256) :
    (∑ i, f i * tri i j) + (∑ i, (f i - f i) * tri i j) + (∑ i, (f i - f i - (f i - f i)) * tri i j)
      = ∑ i, if j < i then f i else 0 := by
  have h1 : ∀ i, f i * tri i j = if j < i then f i else 0 := fun i => by
    rw [htri]; by_cases h : j < i
    · rw [if_pos h, if_pos h, mul_one]
    · rw [if_neg h, if_neg h, mul_zero]
  simp only [h1]
  by_cases hb : ∃ i, j < i ∧ f i = ⊥
  · obtain ⟨i, hi, hfi⟩ := hb
    rw [sum_bot (fun i => if j < i then f i else 0) i (by rw [if_pos hi, hfi]), EReal.bot_add, EReal.bot_add]
  · have h0 : ∀ i, j < i → f i - f i = 0 := fun i hi => EReal.sub_self (hf i) fun h => hb ⟨i, hi, h⟩
    have h2 : ∀ i, (f i - f i) * tri i j = 0 := fun i => by
      rw [htri]; by_cases h : j < i
      · rw [h0 i h, zero_mul]
      · rw [if_neg h, mul_zero]
    have h3 : ∀ i, (f i - f i - (f i - f i)) * tri i j = 0 := fun i => by
      rw [htri]; by_cases h : j < i
      · rw [h0 i h, sub_zero, zero_mul]
      · rw [if_neg h, mul_zero]
    simp only [h2, h3, Finset.sum_const_zero, add_zero]

/-- The logarithm in the shares is real, whatever the score. -/
theorem tail_real (z : EReal) : ∃ t : ℝ, tail z = t := by
  have hreal : ∀ e : ℝ, 0 ≤ e → ∃ t : ℝ, Ideal.log1p (e : EReal) = t := fun e he =>
    ⟨Real.log (1 + e), by
      rw [Ideal.log1p, ← EReal.coe_one, ← EReal.coe_add, Ideal.log_coe, if_neg (by linarith)]⟩
  induction z with
  | bot => exact hreal 0 le_rfl
  | top => exact hreal 0 le_rfl
  | coe r =>
    obtain ⟨m, hm⟩ : ∃ m : ℝ, max (r : EReal) (-(r : EReal)) = m := ⟨max r (-r), by rw [EReal.coe_strictMono.monotone.map_max, EReal.coe_neg]⟩
    obtain ⟨t, ht⟩ := hreal (Real.exp (0 - m)) (Real.exp_nonneg _)
    refine ⟨t, ?_⟩
    rw [← ht, tail, hm, ← EReal.coe_zero, ← EReal.coe_sub, Ideal.exp_coe]

theorem left_ne_top (z : EReal) : left z ≠ ⊤ := by
  obtain ⟨t, ht⟩ := tail_real z
  rw [left, ht]
  induction z with
  | bot => rw [max_eq_right bot_le, ← EReal.coe_zero, ← EReal.coe_sub, ← EReal.coe_sub]; exact EReal.coe_ne_top _
  | top => rw [max_eq_left le_top, EReal.sub_top, EReal.bot_sub]; exact bot_ne_top
  | coe r =>
    rw [← EReal.coe_zero, ← EReal.coe_strictMono.monotone.map_max, ← EReal.coe_sub, ← EReal.coe_sub]; exact EReal.coe_ne_top _

/-- The split sum of what the keys before the query leave. -/
theorem split_left (q : Fin 256 → Prop) [DecidablePred q] (z : Fin 256 → EReal) (tri : Fin 256 → Fin 256 → EReal)
    (htri : ∀ i j, tri i j = if j < i then 1 else 0) (j : Fin 256) :
    (∑ i, (if q i then left (z i) else 0) * tri i j)
      + (∑ i, ((if q i then left (z i) else 0) - (if q i then left (z i) else 0)) * tri i j)
      + (∑ i, ((if q i then left (z i) else 0) - (if q i then left (z i) else 0)
          - ((if q i then left (z i) else 0) - (if q i then left (z i) else 0))) * tri i j)
      = ∑ i, if j < i then (if q i then left (z i) else 0) else 0 :=
  split_sum (fun i => if q i then left (z i) else 0) tri htri (fun i => by
    by_cases h : q i
    · simp only [h, if_true]; exact left_ne_top _
    · simp only [h, if_false]; exact EReal.zero_ne_top) j
end Cert.StickSum
end
-- ==== Proof.StickTrip.lean ====
/- One trip of the stick-breaking kernel's loop over blocks of keys, from the last to the first: what it leaves in every head's
   running sum of logarithms and running weighted sum, from what they held before. -/
module
public import proofs.«01_k».proof.Proof.Gen.StickBreakingIdeal.Loops
public import proofs.«01_k».proof.Proof.HeadBuffer
public import proofs.«01_k».proof.Proof.StickSum
public import Idealize.ShloMosaic.Lib.WordCmp
public import Idealize.ShloMosaic.Lib.WordArith.Masks
@[expose] public section
set_option maxRecDepth 16384
noncomputable section
namespace Cert.StickTrip
open Cert.StickBreakingIdeal Cert.StickBreakingIdeal.Gen Idealize.ShloMosaic Idealize.ShloMosaic.TcCoe Idealize.SL.Sem

/-- The number of blocks of keys up to the queries' own, as the kernel computes it. -/
abbrev blocks (i : grid0.Coords) : BitVec 32 :=
  Scalar.select
    (Scalar.andi
      (Scalar.cmpi .ne (Scalar.subi (Scalar.extui (Scalar.cmpi .sgt (Scalar.subi (Scalar.addi (Scalar.addi (Scalar.muli (BitVec.ofNat 32 (i 1).val) 128#32) 128#32) 256#32) 1#32) 0#32))
          (Scalar.extui (Scalar.cmpi .slt (Scalar.subi (Scalar.addi (Scalar.addi (Scalar.muli (BitVec.ofNat 32 (i 1).val) 128#32) 128#32) 256#32) 1#32) 0#32)))
        (Scalar.subi (Scalar.extui (Scalar.cmpi .sgt 256#32 0#32)) (Scalar.extui (Scalar.cmpi .slt 256#32 0#32))))
      (Scalar.cmpi .ne (Scalar.remsi (Scalar.subi (Scalar.addi (Scalar.addi (Scalar.muli (BitVec.ofNat 32 (i 1).val) 128#32) 128#32) 256#32) 1#32) 256#32) 0#32))
    (Scalar.subi (Scalar.divsi (Scalar.subi (Scalar.addi (Scalar.addi (Scalar.muli (BitVec.ofNat 32 (i 1).val) 128#32) 128#32) 256#32) 1#32) 256#32) 1#32)
    (Scalar.divsi (Scalar.subi (Scalar.addi (Scalar.addi (Scalar.muli (BitVec.ofNat 32 (i 1).val) 128#32) 128#32) 256#32) 1#32) 256#32)

theorem blocks_eq : ∀ i : grid0.Coords,
  Scalar.select
    (Scalar.andi
      (Scalar.cmpi .ne (Scalar.subi (Scalar.extui (Scalar.cmpi .sgt (Scalar.subi (Scalar.addi (Scalar.addi (Scalar.muli (BitVec.ofNat 32 (i 1).val) 128#32) 128#32) 256#32) 1#32) 0#32))
          (Scalar.extui (Scalar.cmpi .slt (Scalar.subi (Scalar.addi (Scalar.addi (Scalar.muli (BitVec.ofNat 32 (i 1).val) 128#32) 128#32) 256#32) 1#32) 0#32)))
        (Scalar.subi (Scalar.extui (Scalar.cmpi .sgt 256#32 0#32)) (Scalar.extui (Scalar.cmpi .slt 256#32 0#32))))
      (Scalar.cmpi .ne (Scalar.remsi (Scalar.subi (Scalar.addi (Scalar.addi (Scalar.muli (BitVec.ofNat 32 (i 1).val) 128#32) 128#32) 256#32) 1#32) 256#32) 0#32))
    (Scalar.subi (Scalar.divsi (Scalar.subi (Scalar.addi (Scalar.addi (Scalar.muli (BitVec.ofNat 32 (i 1).val) 128#32) 128#32) 256#32) 1#32) 256#32) 1#32)
    (Scalar.divsi (Scalar.subi (Scalar.addi (Scalar.addi (Scalar.muli (BitVec.ofNat 32 (i 1).val) 128#32) 128#32) 256#32) 1#32) 256#32)
    = BitVec.ofNat 32 ((i 1).val / 2 + 1) := by decide +kernel

theorem trips_eq : ∀ i : grid0.Coords, (k0_t1_loop i).trips = (i 1).val / 2 + 1 := by decide +kernel

/-- The first key of the block trip `k` visits, of the blocks up to block `n`. -/
theorem first_key (n k : ℕ) (hn : n < 8) (hk : k ≤ n) :
    Scalar.muli (Scalar.subi (Scalar.subi (BitVec.ofNat 32 (n + 1)) 1#32) (Scf.iv 0#32 1#32 k)) 256#32 = BitVec.ofNat 32 (256 * (n - k)) := by
  have h : Scf.iv 0#32 1#32 k = BitVec.ofNat 32 k := by
    apply BitVec.eq_of_toNat_eq
    rw [WordArith.toNat_iv_zero_one k (by omega), BitVec.toNat_ofNat, Nat.mod_eq_of_lt (by omega)]
  rw [h]
  interval_cases n <;> interval_cases k <;> rfl

theorem first_key_nat (n : ℕ) (hn : n < 8) : BitVec.toNat (Scalar.indexCast (BitVec.ofNat 32 (256 * n))) = 256 * n := by
  show BitVec.toNat (BitVec.ofNat 32 (256 * n)) = _
  rw [BitVec.toNat_ofNat]; omega

/-- The comparison of a key's position with the query's keeps the earlier keys. -/
theorem select_mask (q k : ℕ) (hq : q < 16) (hk : k < 8) (r : Fin 128) (j : Fin 256) (a b : EReal) :
    Scalar.select (IntOp.cmpi .slt (IntOp.addi (BitVec.ofNat 32 (256 * k)) (BitVec.ofNat 32 j.val))
      (IntOp.addi (Scalar.muli (BitVec.ofNat 32 q) 128#32) (BitVec.ofNat 32 r.val))) a b
      = if 256 * k + j.val < 128 * q + r.val then a else b := by
  have h1 : IntOp.addi (BitVec.ofNat 32 (256 * k)) (BitVec.ofNat 32 j.val) = BitVec.ofNat 32 (256 * k + j.val) :=
    (BitVec.ofNat_add ..).symm
  have h2 : IntOp.addi (Scalar.muli (BitVec.ofNat 32 q) 128#32) (BitVec.ofNat 32 r.val) = BitVec.ofNat 32 (128 * q + r.val) := by
    rw [show Scalar.muli (BitVec.ofNat 32 q) 128#32 = BitVec.ofNat 32 (128 * q) from (WordCmp.muli_ofNat q 128).trans (by rw [mul_comm])]
    exact (BitVec.ofNat_add ..).symm
  rw [h1, h2, WordCmp.cmpi_slt_ofNat (by omega) (by omega)]
  by_cases h : 256 * k + j.val < 128 * q + r.val <;> simp [h, Scalar.select]

theorem split_lanes (f : Fin 128 → EReal) :
    ∑ x, f x = (∑ d : Fin 64, f ⟨d.val, by omega⟩) + ∑ d : Fin 64, f ⟨64 + d.val, by omega⟩ :=
  Fin.sum_univ_add (a := 64) (b := 64) f

/-- A product over a block's 128 lanes kept to the lower or to the upper half. -/
theorem lower_half (f : Fin 128 → EReal) :
    ∑ x : Fin 128, Scalar.select (IntOp.cmpi .slt (BitVec.ofNat 32 x.val) 64#32) (f x) 0 = ∑ d : Fin 64, f ⟨d.val, by omega⟩ := by
  have h : ∀ x : Fin 128, IntOp.cmpi .slt (BitVec.ofNat 32 x.val) 64#32 = if x.val < 64 then 1#1 else 0#1 := by decide +kernel
  simp only [h]
  rw [split_lanes]
  have h1 : ∀ d : Fin 64, d.val < 64 := fun d => d.isLt
  have h2 : ∀ d : Fin 64, ¬ 64 + d.val < 64 := fun d => by omega
  simp only [h1, h2, if_true, if_false, Scalar.select]
  simp

theorem upper_half (f : Fin 128 → EReal) :
    ∑ x : Fin 128, Scalar.select (IntOp.xori (IntOp.cmpi .slt (BitVec.ofNat 32 x.val) 64#32) 1#1) (f x) 0 = ∑ d : Fin 64, f ⟨64 + d.val, by omega⟩ := by
  have h : ∀ x : Fin 128, IntOp.xori (IntOp.cmpi .slt (BitVec.ofNat 32 x.val) 64#32) 1#1 = if x.val < 64 then 0#1 else 1#1 := by decide +kernel
  simp only [h]
  rw [split_lanes]
  have h1 : ∀ d : Fin 64, d.val < 64 := fun d => d.isLt
  have h2 : ∀ d : Fin 64, ¬ 64 + d.val < 64 := fun d => by omega
  simp only [h1, h2, if_true, if_false, Scalar.select]
  simp

/-- Head `h`'s score of query row `r` against key `j`. -/
def score (Q : S1x128x256.Idx → EReal) (K : S1x2048x256.Idx → EReal) (h : Fin 4) (r : Fin 128) (j : ℕ) : EReal :=
  if hj : j < 2048 then ∑ d : Fin 64, Q (ix3 0 r ⟨64 * h.val + d.val, by omega⟩) * K (ix3 0 ⟨j, hj⟩ ⟨64 * h.val + d.val, by omega⟩) else 0

/-- Lane `l` of head `h`'s block of 128 columns of the value of key `j`. -/
def value (V : S1x2048x256.Idx → EReal) (h : Fin 4) (l : Fin 128) (j : ℕ) : EReal :=
  if hj : j < 2048 then V (ix3 0 ⟨j, hj⟩ ⟨128 * (h.val / 2) + l.val, by omega⟩) else 0

/-- What key `j` takes and leaves, for query row `r` of block `q`. -/
def takes (Q : S1x128x256.Idx → EReal) (K : S1x2048x256.Idx → EReal) (h : Fin 4) (r : Fin 128) (j : ℕ) : EReal := StickSum.taken (score Q K h r j)
def leaves (Q : S1x128x256.Idx → EReal) (K : S1x2048x256.Idx → EReal) (q : ℕ) (h : Fin 4) (r : Fin 128) (j : ℕ) : EReal :=
  if j < 128 * q + r.val then StickSum.left (score Q K h r j) else 0

theorem fold_tail (z : EReal) : Ideal.log1p (Ideal.exp (0 - FloatOps.absf (F := Ideal) (φ := .f32) z)) = StickSum.tail z := rfl
theorem fold_left (z : EReal) : 0 - max z 0 - StickSum.tail z = StickSum.left z := rfl
theorem fold_taken (z : EReal) : min z 0 - StickSum.tail z = StickSum.taken z := rfl

theorem select_mul (p : Prop) [Decidable p] (a b : EReal) : (if p then a * b else 0) = (if p then a else 0) * b := by
  by_cases h : p
  · rw [if_pos h, if_pos h]
  · rw [if_neg h, if_neg h, zero_mul]

section Trip
variable (c : Dev nD) (i : grid0.Coords) (arg2 : Memref sig .tc .vmem S1x128x256 .bf16) (harg2 : arg2.IsWhole)
  (arg3 : Memref sig .tc .vmem S1x2048x256 .bf16) (harg3 : arg3.IsWhole) (arg4 : Memref sig .tc .vmem S1x2048x256 .bf16) (harg4 : arg4.IsWhole)
  (arg5 : Memref sig .tc .vmem S256x256 .bf16) (harg5 : arg5.IsWhole) (arg6 : Memref sig .tc .vmem S1x128x256 .f32) (harg6 : arg6.IsWhole)
  (arg7 : Memref sig .tc .vmem S4x128x128 .f32) (harg7 : arg7.IsWhole) (arg8 : Memref sig .tc .vmem S4x128x1 .f32) (harg8 : arg8.IsWhole)
  (v36 : FVec Ideal S256x256 .bf16)
  (X2 : BufTy.Contents (Elt Ideal) arg2.view.ty) (X3 : BufTy.Contents (Elt Ideal) arg3.view.ty) (X4 : BufTy.Contents (Elt Ideal) arg4.view.ty)

/-- The pieces trip `k` stores, from the contents `f7`, `f8` of the two running buffers at its start. -/
abbrev pieces (k : Fin (k0_t1_loop i).trips) (f7 : BufTy.Contents (Elt Ideal) arg7.view.ty) (f8 : BufTy.Contents (Elt Ideal) arg8.view.ty) :=
  tripL_k0_t1 (F := Ideal) Variants.none c none i arg2 harg2 arg3 harg3 arg4 harg4 arg5 harg5 arg6 harg6 arg7 harg7 arg8 harg8
    (blocks i) (k0_pay80 i) (iota Kind.tc S128x256 32 [1] iota_S128x256_d1_w32) k0_pay81 v36 X2 X3 X4 k f7 f8

variable (k : Fin (k0_t1_loop i).trips) (f7 : BufTy.Contents (Elt Ideal) arg7.view.ty)
  (f8 : BufTy.Contents (Elt Ideal) arg8.view.ty) (h : Fin 4) (r : Fin 128)

set_option maxHeartbeats 1600000 in
/-- What the trip leaves in head `h`'s row `r` of the running sum and of lane `l` of the running weighted sum. -/
theorem step (l : Fin 128) (R A : EReal) (htri : ∀ a b : Fin 256, (show EReal from v36 (ix2 a b)) = if b < a then 1 else 0)
    (hR : (show EReal from arg8.view.read (Elt Ideal) f8 (ix3 h r 0)) = R) (hA : (show EReal from arg7.view.read (Elt Ideal) f7 (ix3 h r l)) = A) :
    (show EReal from arg8.view.read (Elt Ideal) (arg8.view.writes (Elt Ideal) f8 (pieces c i arg2 harg2 arg3 harg3 arg4 harg4 arg5 harg5 arg6 harg6 arg7 harg7 arg8 harg8 v36 X2 X3 X4 k f7 f8).2) (ix3 h r 0))
      = R + ∑ j : Fin 256, leaves (arg2.view.read (Elt Ideal) X2) (arg3.view.read (Elt Ideal) X3) (i 1).val h r (256 * ((i 1).val / 2 - k.val) + j.val)
    ∧ (show EReal from arg7.view.read (Elt Ideal) (arg7.view.writes (Elt Ideal) f7 (pieces c i arg2 harg2 arg3 harg3 arg4 harg4 arg5 harg5 arg6 harg6 arg7 harg7 arg8 harg8 v36 X2 X3 X4 k f7 f8).1) (ix3 h r l))
      = A + ∑ j : Fin 256, (if 256 * ((i 1).val / 2 - k.val) + j.val < 128 * (i 1).val + r.val then
            Ideal.exp (takes (arg2.view.read (Elt Ideal) X2) (arg3.view.read (Elt Ideal) X3) h r (256 * ((i 1).val / 2 - k.val) + j.val)
              + ((∑ j' : Fin 256, if j < j' then leaves (arg2.view.read (Elt Ideal) X2) (arg3.view.read (Elt Ideal) X3) (i 1).val h r (256 * ((i 1).val / 2 - k.val) + j'.val) else 0) + R))
          else 0) * value (arg4.view.read (Elt Ideal) X4) h l (256 * ((i 1).val / 2 - k.val) + j.val) := by
  subst hR hA
  have hq : (i 1).val < 16 := (i 1).isLt
  have hn : (i 1).val / 2 < 8 := by omega
  have hk : k.val ≤ (i 1).val / 2 := by have := k.isLt; have := trips_eq i; omega
  have hb : (i 1).val / 2 - k.val < 8 := by omega
  have hlt : ∀ j : Fin 256, 256 * ((i 1).val / 2 - k.val) + j.val < 2048 := fun j => by omega
  unfold pieces tripL_k0_t1 trip_k0_t1
  dsimp only
  sl_unfold_words
  simp only [HeadBuffer.read_store_head, leaves, takes, score, value, hlt, dite_true]
  fin_cases h <;> refine ⟨?_, ?_⟩
  all_goals
    simp only [if_true, if_false, Fin.isValue, Fin.mk_zero, Fin.reduceFinMk, Fin.val_zero, Fin.val_one, Fin.val_two, Nat.one_ne_zero,
      OfNat.ofNat_ne_zero, Nat.reduceEqDiff]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, HeadBuffer.readAt_box]
    simp only [blocks_eq i, first_key _ _ hn hk, first_key_nat _ hb, select_mask _ _ hq hb, lower_half, upper_half, fold_tail, fold_left, fold_taken, select_mul]
    try simp only [StickSum.split_left _ _ (fun a b => (show EReal from v36 (ix2 a b))) htri]
    try simp only [← Nat.add_assoc, Nat.reduceAdd]
end Trip
end Cert.StickTrip
end
-- ==== Proof.StickBlock.lean ====
/- One block of the stick-breaking kernel's result: after its loop the running buffers hold the sums over the keys up to the
   block's own, and each column takes its head's weighted sum. -/
module
public import proofs.«01_k».proof.Proof.StickTrip
public import proofs.«01_k».proof.Proof.Gen.StickBreakingIdeal.Frame
public import Idealize.ShloMosaic.Lib.VecWindow
public import Idealize.ShloMosaic.Lib.Pipeline.ValueKit
@[expose] public section
set_option maxRecDepth 16384
noncomputable section
namespace Cert.StickBlock
open Cert.StickBreakingIdeal Cert.StickBreakingIdeal.Gen Idealize.ShloMosaic Idealize.ShloMosaic.TcCoe Idealize.SL.Sem
open StickTrip (score value takes leaves)
open StickSum (later total)

/-- The kernel's second loop, over the blocks left over by the first, is empty. -/
theorem rest_empty : ∀ i : grid0.Coords, (k0_t2_loop i).trips = 0 := by decide +kernel

/-- The number of keys the blocks up to the queries' own hold. -/
abbrev keys (i : grid0.Coords) : ℕ := 256 * ((i 1).val / 2 + 1)

section Block
variable (c : Dev nD) (i : grid0.Coords) (arg2 : Memref sig .tc .vmem S1x128x256 .bf16) (harg2 : arg2.IsWhole)
  (arg3 : Memref sig .tc .vmem S1x2048x256 .bf16) (harg3 : arg3.IsWhole) (arg4 : Memref sig .tc .vmem S1x2048x256 .bf16) (harg4 : arg4.IsWhole)
  (arg5 : Memref sig .tc .vmem S256x256 .bf16) (harg5 : arg5.IsWhole) (arg6 : Memref sig .tc .vmem S1x128x256 .f32) (harg6 : arg6.IsWhole)
  (arg7 : Memref sig .tc .vmem S4x128x128 .f32) (harg7 : arg7.IsWhole) (arg8 : Memref sig .tc .vmem S4x128x1 .f32) (harg8 : arg8.IsWhole)

section State
variable (v36 : FVec Ideal S256x256 .bf16)
  (X2 : BufTy.Contents (Elt Ideal) arg2.view.ty) (X3 : BufTy.Contents (Elt Ideal) arg3.view.ty) (X4 : BufTy.Contents (Elt Ideal) arg4.view.ty)
  (G7 : BufTy.Contents (Elt Ideal) arg7.view.ty) (G8 : BufTy.Contents (Elt Ideal) arg8.view.ty)

/-- The pieces the first `k` trips store. -/
abbrev stored (k : ℕ) :=
  pb_k0_t1 (F := Ideal) Variants.none c none i arg2 harg2 arg3 harg3 arg4 harg4 arg5 harg5 arg6 harg6 arg7 harg7 arg8 harg8
    (StickTrip.blocks i) (k0_pay80 i) (iota Kind.tc S128x256 32 [1] iota_S128x256_d1_w32) k0_pay81 v36 X2 X3 X4 G7 G8 k

/-- After `k` trips the running buffers hold the sums over the last `256 k` of the keys. -/
theorem state (h : Fin 4) (r l : Fin 128) (htri : ∀ a b : Fin 256, (show EReal from v36 (ix2 a b)) = if b < a then 1 else 0)
    (h7 : (show EReal from arg7.view.read (Elt Ideal) G7 (ix3 h r l)) = 0) (h8 : (show EReal from arg8.view.read (Elt Ideal) G8 (ix3 h r 0)) = 0)
    (k : ℕ) (hk : k ≤ (i 1).val / 2 + 1) :
    let L := leaves (arg2.view.read (Elt Ideal) X2) (arg3.view.read (Elt Ideal) X3) (i 1).val h r
    let B := takes (arg2.view.read (Elt Ideal) X2) (arg3.view.read (Elt Ideal) X3) h r
    let v := value (arg4.view.read (Elt Ideal) X4) h l
    let S := stored c i arg2 harg2 arg3 harg3 arg4 harg4 arg5 harg5 arg6 harg6 arg7 harg7 arg8 harg8 v36 X2 X3 X4 G7 G8 k
    (show EReal from arg8.view.read (Elt Ideal) (arg8.view.writes (Elt Ideal) G8 S.2) (ix3 h r 0)) = later L (keys i) (256 * ((i 1).val / 2 + 1 - k))
    ∧ (show EReal from arg7.view.read (Elt Ideal) (arg7.view.writes (Elt Ideal) G7 S.1) (ix3 h r l))
      = total L B v (128 * (i 1).val + r.val) (keys i) (256 * ((i 1).val / 2 + 1 - k)) := by
  induction k with
  | zero =>
    refine ⟨h8.trans ?_, h7.trans ?_⟩
    · simp [later]
    · simp [total]
  | succ k ih =>
    obtain ⟨a, b⟩ := ih (by omega)
    have hkeys : keys i = 256 * ((i 1).val / 2 + 1) := rfl
    have hk' : k < (k0_t1_loop i).trips := by rw [StickTrip.trips_eq]; omega
    have e1 : (i 1).val / 2 + 1 - (k + 1) = (i 1).val / 2 - k := by omega
    have e2 : 256 * ((i 1).val / 2 + 1 - k) = 256 * ((i 1).val / 2 - k) + 256 := by omega
    rw [e2] at a b
    rw [e1]
    dsimp only [stored]
    rw [pb_k0_t1_succ Variants.none c none i arg2 harg2 arg3 harg3 arg4 harg4 arg5 harg5 arg6 harg6 arg7 harg7 arg8 harg8 _ _ _ _ _ _ _ _ _ _ ⟨k, hk'⟩]
    dsimp only
    rw [View.writes_append, View.writes_append, StickSum.later_block _ _ _ (by omega), StickSum.total_block _ _ _ _ _ _ (by omega)]
    have key := StickTrip.step c i arg2 harg2 arg3 harg3 arg4 harg4 arg5 harg5 arg6 harg6 arg7 harg7 arg8 harg8 v36 X2 X3 X4 ⟨k, hk'⟩
      _ _ h r l _ _ htri a b
    simp only [StickSum.later_within _ _ _ (show 256 * ((i 1).val / 2 - k) + 256 ≤ keys i by omega)] at key
    refine ⟨key.1, key.2⟩
end State

variable (x0 : FVec Ideal S1x128x256 .bf16) (x1 : FVec Ideal S1x2048x256 .bf16) (x2 : FVec Ideal S1x2048x256 .bf16) (x3 : FVec Ideal S256x256 .bf16)

/-- The running buffers before the loop: zero. -/
abbrev start7 : BufTy.Contents (Elt Ideal) arg7.view.ty :=
  arg7.view.writes (Elt Ideal) arg7.view.junk [⟨Rect.unit (s := S4x128x128) ![0, 0, 0] ![4, 128, 128] inb_S4x128x128_S4x128x128_0_0_0, k0_pay78 (F := Ideal)⟩]
abbrev start8 : BufTy.Contents (Elt Ideal) arg8.view.ty :=
  arg8.view.writes (Elt Ideal) arg8.view.junk [⟨Rect.unit (s := S4x128x1) ![0, 0, 0] ![4, 128, 1] inb_S4x128x1_S4x128x1_0_0_0, k0_pay79 (F := Ideal)⟩]

theorem start7_read (h : Fin 4) (r l : Fin 128) : (show EReal from arg7.view.read (Elt Ideal) (start7 arg7) (ix3 h r l)) = 0 :=
  (congrFun (View.read_writes_full arg7.view _ _ _ _) _).trans (by pointwise [k0_pay78])

theorem start8_read (h : Fin 4) (r : Fin 128) : (show EReal from arg8.view.read (Elt Ideal) (start8 arg8) (ix3 h r 0)) = 0 :=
  (congrFun (View.read_writes_full arg8.view _ _ _ _) _).trans (by pointwise [k0_pay79])

/-- The running weighted sum after the loop. -/
theorem finish (h : Fin 4) (r l : Fin 128) (v36 : FVec Ideal S256x256 .bf16)
    (htri : ∀ a b : Fin 256, (show EReal from v36 (ix2 a b)) = if b < a then 1 else 0) :
    let S := stored c i arg2 harg2 arg3 harg3 arg4 harg4 arg5 harg5 arg6 harg6 arg7 harg7 arg8 harg8 v36 (harg2.unread x0) (harg3.unread x1) (harg4.unread x2)
      (start7 arg7) (start8 arg8) (k0_t1_loop i).trips
    (show EReal from arg7.view.read (Elt Ideal) (arg7.view.writes (Elt Ideal) (start7 arg7) S.1) (ix3 h r l))
      = total (leaves x0 x1 (i 1).val h r) (takes x0 x1 h r) (value x2 h l) (128 * (i 1).val + r.val) (keys i) 0 := by
  have key := (state c i arg2 harg2 arg3 harg3 arg4 harg4 arg5 harg5 arg6 harg6 arg7 harg7 arg8 harg8 v36 (harg2.unread x0) (harg3.unread x1)
    (harg4.unread x2) (start7 arg7) (start8 arg8) h r l htri (start7_read arg7 h r l) (start8_read arg8 h r) _ (StickTrip.trips_eq i).le).2
  dsimp only at key
  rw [harg2.read_unread, harg3.read_unread, harg4.read_unread] at key
  rw [show 256 * ((i 1).val / 2 + 1 - (k0_t1_loop i).trips) = 0 by rw [StickTrip.trips_eq i]; omega] at key
  exact key

/-- Of two columns blocks that are stored side by side, the entry is the one of the block that its column lies in. -/
theorem halves (P0 P1 : FVec Ideal S1x128x128 .f32) (inb0 inb1) (r : Fin 128) (l : Fin 256) (v : EReal)
    (h0 : ∀ x : Fin 128, l.val = x.val → P0 (ix3 0 r x) = v) (h1 : ∀ x : Fin 128, l.val = 128 + x.val → P1 (ix3 0 r x) = v) :
    (View.canon (Val := Elt Ideal) (s := S1x128x256) (e := .f32)
      [⟨Rect.unit ![0, 0, 128] ![1, 128, 128] inb1, P1⟩, ⟨Rect.unit ![0, 0, 0] ![1, 128, 128] inb0, P0⟩] (ix3 0 r l) : EReal) = v := by
  have cover : ∃ p ∈ ([⟨Rect.unit ![0, 0, 128] ![1, 128, 128] inb1, P1⟩, ⟨Rect.unit ![0, 0, 0] ![1, 128, 128] inb0, P0⟩] :
      List (View.Piece (Elt Ideal) S1x128x256 .f32)), (ix3 0 r l : S1x128x256.Idx) ∈ p.1.set := by
    by_cases h : l.val < 128
    · refine ⟨⟨Rect.unit ![0, 0, 0] ![1, 128, 128] inb0, P0⟩, List.mem_cons_of_mem _ List.mem_cons_self, (Rect.mem_set_unit (inb := inb0)).2 fun a => ?_⟩
      fin_cases a
      · exact ⟨Nat.zero_le _, Nat.zero_lt_one⟩
      · exact ⟨Nat.zero_le _, (Nat.zero_add 128).symm ▸ r.isLt⟩
      · exact ⟨Nat.zero_le _, (Nat.zero_add 128).symm ▸ h⟩
    · refine ⟨⟨Rect.unit ![0, 0, 128] ![1, 128, 128] inb1, P1⟩, List.mem_cons_self, (Rect.mem_set_unit (inb := inb1)).2 fun a => ?_⟩
      fin_cases a
      · exact ⟨Nat.zero_le _, Nat.zero_lt_one⟩
      · exact ⟨Nat.zero_le _, (Nat.zero_add 128).symm ▸ r.isLt⟩
      · exact ⟨Nat.le_of_not_lt h, l.isLt⟩
  canon_tiles x e using cover
  · refine Eq.trans (congrArg _ ?_) (h1 (x 2) e2)
    idx_ext
  · refine Eq.trans (congrArg _ ?_) (h0 (x 2) e2)
    idx_ext

/-- Each column of the block that is written is one of its head's buffer: lanes below 64 come from the even head, the others from the odd one. -/
theorem columns (A0 A1 A2 A3 : FVec Ideal S1x128x128 .f32) (inb0 inb1) (r : Fin 128) (l : Fin 256) (h : Fin 4) (hl : l.val / 64 = h.val) (v : EReal)
    (hv : (![A0, A1, A2, A3] : Fin 4 → FVec Ideal S1x128x128 .f32) h (ix3 0 r ⟨l.val % 128, Nat.mod_lt _ (by decide)⟩) = v) :
    (View.canon (Val := Elt Ideal) (s := S1x128x256) (e := .f32)
      [⟨Rect.unit ![0, 0, 128] ![1, 128, 128] inb1, k0_pay7 (F := Ideal) k0_pay81 A2 A3⟩,
        ⟨Rect.unit ![0, 0, 0] ![1, 128, 128] inb0, k0_pay6 (F := Ideal) k0_pay81 A0 A1⟩] (ix3 0 r l) : EReal) = v := by
  subst hv
  have lanes : ∀ x : Fin 128, IntOp.cmpi .slt (BitVec.ofNat 32 x.val) 64#32 = if x.val < 64 then 1#1 else 0#1 := by decide +kernel
  refine halves _ _ _ _ r l _ (fun x hx => ?_) (fun x hx => ?_)
  · have e : (⟨l.val % 128, Nat.mod_lt _ (by decide)⟩ : Fin 128) = x := Fin.ext (by show l.val % 128 = _; omega)
    rw [e]
    pointwise [k0_pay6, k0_pay81]
    rw [lanes]
    by_cases hx' : x.val < 64
    · obtain rfl : h = 0 := Fin.ext (by show h.val = 0; omega)
      rw [if_pos hx']; rfl
    · obtain rfl : h = 1 := Fin.ext (by show h.val = 1; omega)
      rw [if_neg hx']; rfl
  · have e : (⟨l.val % 128, Nat.mod_lt _ (by decide)⟩ : Fin 128) = x := Fin.ext (by show l.val % 128 = _; omega)
    rw [e]
    pointwise [k0_pay7, k0_pay81]
    rw [lanes]
    by_cases hx' : x.val < 64
    · obtain rfl : h = 2 := Fin.ext (by show h.val = 2; omega)
      rw [if_pos hx']; rfl
    · obtain rfl : h = 3 := Fin.ext (by show h.val = 3; omega)
      rw [if_neg hx']; rfl

/-- The block the kernel writes: each column the weighted sum of its head. -/
theorem block_apply (r : Fin 128) (l : Fin 256) (h : Fin 4) (hl : l.val / 64 = h.val)
    (htri : ∀ a b : Fin 256, (show EReal from x3 (ix2 a b)) = if b < a then 1 else 0) :
    (out0_A_4 (F := Ideal) c i arg2 harg2 arg3 harg3 arg4 harg4 arg5 harg5 arg6 harg6 arg7 harg7 arg8 harg8 x0 x1 x2 x3 : FVec Ideal S1x128x256 .f32) (ix3 0 r l)
      = total (leaves x0 x1 (i 1).val h r) (takes x0 x1 h r) (value x2 h ⟨l.val % 128, Nat.mod_lt _ (by decide)⟩) (128 * (i 1).val + r.val) (keys i) 0 := by
  have key := fun v36 => finish c i arg2 harg2 arg3 harg3 arg4 harg4 arg5 harg5 arg6 harg6 arg7 harg7 arg8 harg8 x0 x1 x2 h r
    ⟨l.val % 128, Nat.mod_lt _ (by decide)⟩ v36
  unfold out0_A_4
  frame_out
  have hrest := rest_empty i
  dsimp only [k0_t2_loop, Scf.Loop.trips] at hrest
  simp only [hrest, pb_k0_t2, List.nil_append]
  dsimp only [stored, start7, start8] at key
  simp only [← View.writes_append] at key
  refine columns _ _ _ _ _ _ r l h hl _ ?_
  fin_cases h <;> exact (HeadBuffer.readAt_box _ _ _ _ _ _ _ _ _).trans ((congrArg _ (by idx_ext)).trans (key _ htri))
end Block
end Cert.StickBlock
end
-- ==== Proof.StickSpec.lean ====
/- The stick-breaking attention as one formula: a query takes from each earlier key, going back from the latest, its share of what
   the keys after it have left, and sums the values weighted so. -/
module
public import proofs.«01_k».proof.Proof.StickSum
@[expose] public section
noncomputable section
namespace Cert.StickSpec
open Idealize.ShloMosaic

/-- The queries, keys, values and the result: every head has 64 columns. -/
abbrev Packed := (⟨3, ![16, 2048, 256]⟩ : Shape).Idx → EReal

/-- Head `h`'s score of query `n` against key `j`; zero past the end. -/
def score (Q K : Packed) (b : Fin 16) (h : Fin 4) (n : Fin 2048) (j : ℕ) : EReal :=
  if hj : j < 2048 then
    ∑ d : Fin 64, Q (ix3 b n ⟨64 * h.val + d.val, by omega⟩) * K (ix3 b ⟨j, hj⟩ ⟨64 * h.val + d.val, by omega⟩)
  else 0

/-- Column `l` of the value of key `j`. -/
def value (V : Packed) (b : Fin 16) (l : Fin 256) (j : ℕ) : EReal := if hj : j < 2048 then V (ix3 b ⟨j, hj⟩ l) else 0

/-- The log of the share that key `j` takes. -/
def takes (Q K : Packed) (b : Fin 16) (h : Fin 4) (n : Fin 2048) (j : ℕ) : EReal := StickSum.taken (score Q K b h n j)

/-- The log of the share that key `j` leaves; the keys from the query on take no part and leave all. -/
def leaves (Q K : Packed) (b : Fin 16) (h : Fin 4) (n : Fin 2048) (j : ℕ) : EReal := if j < n.val then StickSum.left (score Q K b h n j) else 0

/-- The result at query `n`, column `l`. -/
def result (Q K V : Packed) (b : Fin 16) (n : Fin 2048) (l : Fin 256) : EReal :=
  StickSum.total (leaves Q K b ⟨l.val / 64, by omega⟩ n) (takes Q K b ⟨l.val / 64, by omega⟩ n) (value V b l) n.val 2048 0

/-- Only the keys up to a bound at or past the query matter. -/
theorem result_prefix (Q K V : Packed) (b : Fin 16) (n : Fin 2048) (l : Fin 256) (N : ℕ) (hn : n.val ≤ N) (hN : N ≤ 2048) :
    result Q K V b n l
      = StickSum.total (leaves Q K b ⟨l.val / 64, by omega⟩ n) (takes Q K b ⟨l.val / 64, by omega⟩ n) (value V b l) n.val N 0 :=
  StickSum.total_extend _ _ _ _ _ _ hn hN fun _ h => if_neg (by omega)
end Cert.StickSpec
end
-- ==== Proof.StickTriangle.lean ====
/- The triangle that the host builds for the stick-breaking kernel: ones below the diagonal. -/
module
public import proofs.«01_k».proof.Proof.Gen.StickBreakingIdeal.Frame
public import Idealize.ShloMosaic.Lib.Pipeline.ValueKit
public import Idealize.ShloMosaic.Lib.Pointwise
public import Idealize.ShloMosaic.Lib.ValueIdx
public import Idealize.ShloMosaic.Lib.WordCmp
@[expose] public section
set_option maxRecDepth 16384
noncomputable section
namespace Cert.StickTriangle
open Cert.StickBreakingIdeal Cert.StickBreakingIdeal.Gen Idealize.ShloMosaic Idealize.ShloMosaic.TcCoe Idealize.SL.Sem

/-- The host's mask: row `a` keeps the columns up to `a - 1`. -/
def mask : IVec S256x256 1 :=
  cmpi .sge (addi (iotaInDim S256x256 32 0) (broadcastInDim S256x256 ![] bcast_S_S256x256 (constantI S_ 32 4294967295#32))) (iotaInDim S256x256 32 1)

/-- The triangle as the host's operations write it. -/
def triangle : FVec Ideal S256x256 .bf16 :=
  truncf .bf16 (select mask (broadcastInDim S256x256 ![] bcast_S_S256x256 (constant (F := Ideal) S_ .f32 0x3F800000#32))
    (broadcastInDim S256x256 ![] bcast_S_S256x256 (constant (F := Ideal) S_ .f32 0x00000000#32))) bitsLt_bf16_f32

/-- The mask's comparison of words is the comparison of the row with the column. -/
theorem mask_word : ∀ a b : Fin 256,
    IntOp.cmpi .sge (IntOp.addi (BitVec.ofNat 32 a.val) 4294967295#32) (BitVec.ofNat 32 b.val) = if b < a then 1#1 else 0#1 := by
  have first : ∀ b : Fin 256, IntOp.cmpi .sge (IntOp.addi (BitVec.ofNat 32 0) 4294967295#32) (BitVec.ofNat 32 b.val) = 0#1 := by decide +kernel
  have before : ∀ a : Fin 255, IntOp.addi (BitVec.ofNat 32 (a.val + 1)) 4294967295#32 = BitVec.ofNat 32 a.val := by decide +kernel
  intro a b
  obtain ⟨a, ha⟩ := a
  cases a with
  | zero => exact (first b).trans (if_neg (Nat.not_lt_zero _)).symm
  | succ a =>
    rw [before ⟨a, by omega⟩]
    by_cases h : b.val ≤ a
    · rw [(WordCmp.cmpi_sge_ofNat_eq_one_iff (by omega) (by omega)).mpr h]; exact (if_pos (Nat.lt_succ_of_le h)).symm
    · rw [(WordCmp.cmpi_sge_ofNat_eq_zero_iff (by omega) (by omega)).mpr (by omega)]; exact (if_neg (fun h' => h (Nat.le_of_lt_succ h'))).symm

/-- Its entries. -/
theorem triangle_apply (a b : Fin 256) : (show EReal from triangle (ix2 a b)) = if b < a then 1 else 0 := by
  pointwise [triangle, mask]
  rw [mask_word]
  by_cases h : b < a
  · rw [if_pos h, if_pos h]; rfl
  · rw [if_neg h, if_neg h]; rfl

variable (m : (ℓ : Loc nD τ sig) → Buf (Elt Ideal) ℓ)

/-- The triangle is what the kernel's fourth argument holds when the call starts. -/
theorem entry (c : Dev nD) : (show FVec Ideal S256x256 .bf16 from V m c main_v2) = triangle := by
  unfold V
  simp only [hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl
end Cert.StickTriangle
end
-- ==== Proof.StickArray.lean ====
/- The stick-breaking call's result array: from the blocks its points write, the attention of `StickSpec`. -/
module
public import proofs.«01_k».proof.Proof.StickBlock
public import proofs.«01_k».proof.Proof.StickSpec
public import proofs.«01_k».proof.Proof.StickTriangle
public import proofs.«01_k».proof.Proof.Gen.StickBreakingIdeal.Value
@[expose] public section
set_option maxRecDepth 16384
noncomputable section
namespace Cert.StickArray
open Cert.StickBreakingIdeal Cert.StickBreakingIdeal.Gen Idealize.ShloMosaic Idealize.ShloMosaic.TcCoe Idealize.SL.Sem
open Idealize.ShloMosaic.Pipeline (Dat)

/-- Where each window's block sits: point `t` is batch `t / 16`, block of queries `t % 16`; keys and values are the whole batch's. -/
theorem index_maps : ∀ t : Fin cfg0.N, win0_0.index t = ![t.val / 16, t.val % 16, 0] ∧ win0_1.index t = ![t.val / 16, 0, 0]
    ∧ win0_2.index t = ![t.val / 16, 0, 0] ∧ win0_3.index t = ![0, 0] ∧ win0_4.index t = ![t.val / 16, t.val % 16, 0]
    ∧ ((grid0.coords t) 1).val = t.val % 16 ∧ t.val < 256 :=
  (by decide +kernel : ∀ t : Fin grid0.N, _)

/-- The result array. -/
def G (Q K V : FVec Ideal S16x2048x256 .bf16) : FVec Ideal S16x2048x256 .f32 := fun j => StickSpec.result Q K V (j 0) (j 1) (j 2)

variable (m : (ℓ : Loc nD τ sig) → Buf (Elt Ideal) ℓ)

theorem queries_read (c : Dev nD) (t : Fin cfg0.N) (r : Fin 128) (k : Fin 256) (h0 : t.val / 16 < 16) (h : 128 * (t.val % 16) + r.val < 2048) :
    (show FVec Ideal S1x128x256 .bf16 from iblk m c 0 t) (ix3 0 r k)
      = (show FVec Ideal S16x2048x256 .bf16 from m ((c : Thread nD τ).loc main_arg0)) (ix3 ⟨t.val / 16, h0⟩ ⟨128 * (t.val % 16) + r.val, h⟩ k) := by
  blk_ext [iblk, V, index_maps t]

theorem keys_read (c : Dev nD) (t : Fin cfg0.N) (j : Fin 2048) (k : Fin 256) (h0 : t.val / 16 < 16) :
    (show FVec Ideal S1x2048x256 .bf16 from iblk m c 1 t) (ix3 0 j k)
      = (show FVec Ideal S16x2048x256 .bf16 from m ((c : Thread nD τ).loc main_arg1)) (ix3 ⟨t.val / 16, h0⟩ j k) := by
  blk_ext [iblk, V, index_maps t]

theorem values_read (c : Dev nD) (t : Fin cfg0.N) (j : Fin 2048) (k : Fin 256) (h0 : t.val / 16 < 16) :
    (show FVec Ideal S1x2048x256 .bf16 from iblk m c 2 t) (ix3 0 j k)
      = (show FVec Ideal S16x2048x256 .bf16 from m ((c : Thread nD τ).loc main_arg2)) (ix3 ⟨t.val / 16, h0⟩ j k) := by
  blk_ext [iblk, V, index_maps t]

/-- The fourth window's block is the whole of its array, whatever that holds. -/
theorem whole_block (t : Fin cfg0.N) (W : FVec Ideal S256x256 .bf16) (a b : Fin 256) :
    (show FVec Ideal S256x256 .bf16 from ((cfg0.win 3).blk t).view.read (Elt Ideal) W) (ix2 a b) = W (ix2 a b) := by
  blk_ext [index_maps t]

/-- Every point reads the triangle of ones below the diagonal. -/
theorem triangle_read (c : Dev nD) (t : Fin cfg0.N) (a b : Fin 256) :
    (show FVec Ideal S256x256 .bf16 from iblk m c 3 t) (ix2 a b) = (if b < a then 1 else 0 : EReal) := by
  have h : iblk m c 3 t = ((cfg0.win 3).blk t).view.read (Elt Ideal) (StickTriangle.triangle : FVec Ideal S256x256 .bf16) := by
    unfold iblk
    exact congrArg _ (StickTriangle.entry m c)
  rw [h]
  exact (whole_block t _ a b).trans (StickTriangle.triangle_apply a b)

/-- A block's scores are the whole array's. -/
theorem score_eq (Q : FVec Ideal S1x128x256 .bf16) (K : FVec Ideal S1x2048x256 .bf16) (Q' K' : FVec Ideal S16x2048x256 .bf16) (b : Fin 16)
    (h : Fin 4) (r : Fin 128) (n : Fin 2048) (hQ : ∀ k, Q (ix3 0 r k) = Q' (ix3 b n k))
    (hK : ∀ j k, K (ix3 0 j k) = K' (ix3 b j k)) : StickTrip.score Q K h r = StickSpec.score Q' K' b h n := by
  funext j
  simp only [StickTrip.score, StickSpec.score, hQ, hK]

theorem takes_eq (Q : FVec Ideal S1x128x256 .bf16) (K : FVec Ideal S1x2048x256 .bf16) (Q' K' : FVec Ideal S16x2048x256 .bf16) (b : Fin 16)
    (h : Fin 4) (r : Fin 128) (n : Fin 2048) (e : StickTrip.score Q K h r = StickSpec.score Q' K' b h n) :
    StickTrip.takes Q K h r = StickSpec.takes Q' K' b h n := by
  funext j
  simp only [StickTrip.takes, StickSpec.takes, e]

theorem leaves_eq (Q : FVec Ideal S1x128x256 .bf16) (K : FVec Ideal S1x2048x256 .bf16) (Q' K' : FVec Ideal S16x2048x256 .bf16) (b : Fin 16)
    (q : ℕ) (h : Fin 4) (r : Fin 128) (n : Fin 2048) (hn : 128 * q + r.val = n.val) (e : StickTrip.score Q K h r = StickSpec.score Q' K' b h n) :
    StickTrip.leaves Q K q h r = StickSpec.leaves Q' K' b h n := by
  funext j
  simp only [StickTrip.leaves, StickSpec.leaves, e, hn]

theorem value_eq (V : FVec Ideal S1x2048x256 .bf16) (V' : FVec Ideal S16x2048x256 .bf16) (b : Fin 16) (h : Fin 4) (x : Fin 128) (l : Fin 256)
    (hl : 128 * (h.val / 2) + x.val = l.val) (hV : ∀ j k, V (ix3 0 j k) = V' (ix3 b j k)) : StickTrip.value V h x = StickSpec.value V' b l := by
  funext j
  simp only [StickTrip.value, StickSpec.value, hV, hl]

/-- The result array is the attention of the arguments. -/
theorem array_eq (c : Dev nD) : (dats m 0 c).arrAt 4 cfg0.N
    = G (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  unfold outsAt0
  idx_vars y
  obtain ⟨-, -, -, -, h4, hq, ht⟩ := index_maps t
  obtain rfl : y0 = 0 := Subsingleton.elim _ _
  have h0 : t.val / 16 < 16 := by omega
  have hn : 128 * (t.val % 16) + y1.val < 2048 := by omega
  refine (StickBlock.block_apply c _ _ _ _ _ _ _ _ _ _ _ _ _ _ _ _ _ _ _ y1 y2 ⟨y2.val / 64, by omega⟩ rfl (triangle_read m c t)).trans ?_
  have he : ((View.whole main_v3).slice (win0_4.rect t)).emb (ix3 0 y1 y2)
      = (ix3 ⟨t.val / 16, h0⟩ ⟨128 * (t.val % 16) + y1.val, hn⟩ y2 : S16x2048x256.Idx) := by
    blk_ext [index_maps t]
  rw [he]
  have e := score_eq _ _ _ _ ⟨t.val / 16, h0⟩ ⟨y2.val / 64, by omega⟩ _ _ (fun k => queries_read m c t y1 k h0 hn) (fun j k => keys_read m c t j k h0)
  refine Eq.trans ?_ (StickSpec.result_prefix (m ((c : Thread nD τ).loc main_arg0)) (m ((c : Thread nD τ).loc main_arg1))
    (m ((c : Thread nD τ).loc main_arg2)) ⟨t.val / 16, h0⟩ ⟨128 * (t.val % 16) + y1.val, hn⟩ y2
    (256 * (t.val % 16 / 2 + 1)) (show 128 * (t.val % 16) + y1.val ≤ _ by omega) (by omega)).symm
  dsimp only [StickBlock.keys]
  rw [hq]
  rw [takes_eq _ _ _ _ _ _ _ _ e, leaves_eq _ _ _ _ _ _ _ _ _ rfl e,
    value_eq _ _ ⟨t.val / 16, h0⟩ _ _ y2 (by show 128 * (y2.val / 64 / 2) + y2.val % 128 = y2.val; omega) (fun j k => values_read m c t j k h0)]
end Cert.StickArray
end
-- ==== Proof.StickReference.lean ====
/- What the stick-breaking reference computes: the attention of `StickSpec`. -/
module
public import proofs.«01_k».proof.Proof.StickSpec
public import proofs.«01_k».proof.Proof.Gen.StickBreakingRefIdeal.Run
public import Idealize.ShloMosaic.Lib.Pointwise
public import Idealize.ShloMosaic.Lib.ValueIdx
public import Idealize.ShloMosaic.Lib.WordCmp
public import Idealize.ShloMosaic.Lib.WordArith.Masks
@[expose] public section
set_option maxRecDepth 16384
noncomputable section
namespace Cert.StickReference
open Cert.StickBreakingRefIdeal Cert.StickBreakingRefIdeal.Gen Idealize.ShloMosaic Idealize.ShloMosaic.TcCoe Idealize.SL.Sem

/-- The masks keep the keys before the query, and those after a key. -/
theorem select_before (x n : Fin 2048) (a b : EReal) :
    Scalar.select (IntOp.cmpi CmpIPredicate.slt (BitVec.ofNat 32 x.val) (BitVec.ofNat 32 n.val)) a b = if x.val < n.val then a else b := by
  by_cases h : x.val < n.val
  · rw [(WordCmp.cmpi_slt_ofNat_eq_one_iff (by omega) (by omega)).mpr h, if_pos h]; rfl
  · rw [(WordCmp.cmpi_slt_ofNat_eq_zero_iff (by omega) (by omega)).mpr h, if_neg h]; rfl

theorem select_after (x n : Fin 2048) (a b : EReal) :
    Scalar.select (IntOp.cmpi CmpIPredicate.sgt (BitVec.ofNat 32 x.val) (BitVec.ofNat 32 n.val)) a b = if n < x then a else b := by
  by_cases h : n < x
  · rw [(WordCmp.cmpi_sgt_ofNat_eq_one_iff (by omega) (by omega)).mpr h, if_pos h]; rfl
  · rw [(WordCmp.cmpi_sgt_ofNat_eq_zero_iff (by omega) (by omega)).mpr h, if_neg h]; rfl

/-- Softplus as the reference writes it. -/
def softplus (z : EReal) : EReal :=
  if z ≠ z then z else max z 0 + Ideal.log1p (Ideal.exp (-FloatOps.absf (F := Ideal) (φ := .f32) z))

theorem softplus_eq (z : EReal) : softplus z = max z 0 + StickSum.tail z := by
  unfold softplus StickSum.tail
  rw [if_neg (fun h => h rfl), zero_sub]
  rfl

theorem tail_neg (z : EReal) : StickSum.tail (-z) = StickSum.tail z := by
  unfold StickSum.tail
  rw [neg_neg, max_comm]

/-- The log of the share left is the negated softplus of the score. -/
theorem neg_softplus (z : EReal) : -softplus z = StickSum.left z := by
  obtain ⟨t, ht⟩ := StickSum.tail_real z
  rw [softplus_eq, StickSum.left, ht, EReal.neg_add (Or.inr (EReal.coe_ne_top _)) (Or.inr (EReal.coe_ne_bot _)), zero_sub]

/-- The log of the share taken is the negated softplus of the negated score. -/
theorem neg_softplus_neg (z : EReal) : -softplus (-z) = StickSum.taken z := by
  have h : -max (-z) 0 = min z 0 := by
    rcases le_total z 0 with hz | hz
    · rw [min_eq_left hz, max_eq_left (EReal.neg_nonneg.mpr hz), neg_neg]
    · rw [min_eq_right hz, max_eq_right (by simpa using EReal.neg_le_neg_iff.mpr hz), neg_zero]
  obtain ⟨t, ht⟩ := StickSum.tail_real z
  rw [softplus_eq, tail_neg, StickSum.taken, ht, EReal.neg_add (Or.inr (EReal.coe_ne_top _)) (Or.inr (EReal.coe_ne_bot _)), h]

theorem taken_neg (z : EReal) : StickSum.taken (-z) = StickSum.left z := by
  rw [← neg_softplus_neg, neg_neg, neg_softplus]

/-- The reference's weighted sum, over scores `s` and values `w`, is the sum of `StickSum`. -/
theorem weighted (n : Fin 2048) (s w : Fin 2048 → EReal) (L B v : ℕ → EReal) (z1 z2 z3 : EReal) (h1 : z1 = 0) (h2 : z2 = 0) (h3 : z3 = 0)
    (hB : ∀ x : Fin 2048, B x.val = StickSum.taken (s x)) (hL : ∀ x : Fin 2048, L x.val = if x.val < n.val then StickSum.left (s x) else 0)
    (hv : ∀ x : Fin 2048, v x.val = w x) :
    (∑ x : Fin 2048, w x * Scalar.select (IntOp.cmpi CmpIPredicate.slt (BitVec.ofNat 32 x.val) (BitVec.ofNat 32 n.val))
      (Ideal.exp (-softplus (-s x) + ∑ y : Fin 2048,
        Scalar.select (IntOp.cmpi CmpIPredicate.sgt (BitVec.ofNat 32 y.val) (BitVec.ofNat 32 x.val))
          (Scalar.select (IntOp.cmpi CmpIPredicate.slt (BitVec.ofNat 32 y.val) (BitVec.ofNat 32 n.val)) (-softplus (- -s y)) z1) z2)) z3)
      = StickSum.total L B v n.val 2048 0 := by
  subst h1 h2 h3
  simp only [select_before, select_after, neg_softplus_neg, taken_neg, ← hL, ← hB, ← hv]
  unfold StickSum.total StickSum.weight
  rw [← Finset.range_eq_Ico, Finset.sum_range]
  refine Finset.sum_congr rfl fun x _ => ?_
  rw [StickSum.later_eq, mul_comm]

/-- The reference's result is the attention of its arguments. -/
theorem result_apply (m : (ℓ : Loc nD τ sig) → Buf (Elt Ideal) ℓ) (d : Dev nD)
    (Q K V : FVec Ideal S16x2048x256 .bf16)
    (hQ : m ((d.tc : Thread nD τ).loc main_arg0) = Q) (hK : m ((d.tc : Thread nD τ).loc main_arg1) = K)
    (hV : m ((d.tc : Thread nD τ).loc main_arg2) = V) (b : Fin 16) (n : Fin 2048) (l : Fin 256) :
    (Value.res_out0 m d : FVec Ideal S16x2048x256 .f32) (ix3 b n l) = StickSpec.result Q K V b n l := by
  unfold Value.res_out0 Value.res_main_v30
  rw [hQ, hK, hV]
  pointwise
  have h0 : id (constant (F := Ideal) S_ FTy.f32 0#32) ix0 = (0 : EReal) := show Ideal.ofBits .f32 0#32 = 0 by simp [Ideal.ofBits, Ideal.ieee]
  have hi : l.val / 64 * 64 = 64 * (l.val / 64) := mul_comm _ _
  refine weighted n (fun x => ∑ d : Fin 64, Q (ix3 b n ⟨l.val / 64 * 64 + d.val, by omega⟩) * K (ix3 b x ⟨l.val / 64 * 64 + d.val, by omega⟩))
    (fun x => V (ix3 b x l)) (StickSpec.leaves Q K b ⟨l.val / 64, by omega⟩ n) (StickSpec.takes Q K b ⟨l.val / 64, by omega⟩ n)
    (StickSpec.value V b l) _ _ _ h0 h0 h0 (fun x => ?_) (fun x => ?_) (fun x => ?_)
  · simp only [StickSpec.takes, StickSpec.score, x.isLt, dif_pos, hi]
  · simp only [StickSpec.leaves, StickSpec.score, x.isLt, dif_pos, hi]
  · simp only [StickSpec.value, x.isLt, dif_pos]
end Cert.StickReference
end
-- ==== Proof.StickClaims.lean ====
/- The claims about the stick-breaking call: the frames of its three programs, that its idealization changes nothing, and that
   over the extended reals it computes the reference's attention. -/
module

public import proofs.«01_k».proof.Defs
public import proofs.«01_k».proof.Proof.StickArray
public import proofs.«01_k».proof.Proof.StickReference
public import proofs.«01_k».proof.Proof.Gen.StickBreaking.Frame
public import Idealize.ShloMosaic.Lib.Claim

@[expose] public section

set_option maxRecDepth 16384

noncomputable section

namespace Cert.StickClaims

open Idealize.ShloMosaic Idealize.SL.Sem

/-- The kernel ends, leaving its arguments unchanged. -/
theorem frame_kernel : Cert.quiescent_StickBreaking := by
  intro m g _
  exact Cert.StickBreaking.Gen.frame m g

/-- So does its idealization. -/
theorem frame_ideal : Cert.quiescent_StickBreakingIdeal := by
  intro m g _
  exact Cert.StickBreakingIdeal.Gen.frame m g

/-- So does the reference. -/
theorem frame_reference : Cert.quiescent_StickBreakingRefIdeal := by
  intro m g _
  hlo_run
  · exact fun _ => ⟨trivial, trivial, trivial⟩
  · exact sem_eq_zero_of_no_sems (by rfl) _

/-- The idealization rewrites nothing. -/
theorem preserves : Cert.preserves_StickBreaking_StickBreakingIdeal := trivial

/-- The kernel's result array is the reference's, for all queries, keys and values. -/
theorem algebraic : Cert.algebraic_StickBreakingIdeal_StickBreakingRefIdeal := by
  pair_intro
  · run_from Cert.StickBreakingIdeal.Gen.run_main m g
  · run_from Cert.StickBreakingRefIdeal.Value.run m' g'
    refine ((StickArray.array_eq m c).trans (funext fun j => ?_)).symm
    idx_vars j
    exact (StickReference.result_apply m' c _ _ _ (hagree c).1 (hagree c).2.1 (hagree c).2.2 j0 j1 j2).symm

end Cert.StickClaims

end
-- ==== Proof.InProjKernel.lean ====
/- What one point of the projection call computes from its block of 256 rows. -/
module
public import proofs.«01_k».proof.Proof.Gen.InProjIdeal.Frame
public import Idealize.ShloMosaic.Lib.Pointwise
public import Idealize.ShloMosaic.Lib.ValueIdx
public import Idealize.ShloMosaic.Lib.Pipeline.ValueKit
@[expose] public section
set_option maxRecDepth 16384
noncomputable section
namespace Cert.InProjKernel
open Cert.InProjIdeal Cert.InProjIdeal.Gen Idealize.ShloMosaic Idealize.ShloMosaic.TcCoe Idealize.SL.Sem

/-- Row `r` of a block times column `c` of the weight. -/
def proj (x0 : FVec Ideal S1x256x1024 .f32) (x1 : FVec Ideal S1024x3712 .bf16) (r : Fin 256) (c : Fin 3712) : EReal :=
  ∑ k : Fin 1024, (show EReal from x0 (ix3 0 r k)) * (show EReal from x1 (ix2 k c))

variable (x0 : FVec Ideal S1x256x1024 .f32) (x1 : FVec Ideal S1024x3712 .bf16) (x2 : FVec Ideal S8x256x128 .f32)
  (x3 : FVec Ideal S1x256 .f32) (x4 : FVec Ideal S256x512 .bf16) (x5 : FVec Ideal S1x128 .f32) (x6 : FVec Ideal S128x512 .bf16)
  (x7 : FVec Ideal S128x256 .bf16)

/-- The stick-breaking values. -/
theorem sv_apply (r : Fin 256) (j : Fin 256) (h : 3456 + j.val < 3712) :
    (show EReal from out0_23 (F := Ideal) x0 x1 x2 x3 x4 x5 x6 x7 (ix3 0 r j)) = proj x0 x1 r ⟨3456 + j.val, h⟩ := by
  frame_out
  pointwise [k0_pay2, k0_pay75, k0_pay3, proj]

/-- The stick-breaking queries. -/
theorem sq_apply (r : Fin 256) (j : Fin 256) (h : 2944 + j.val < 3712) :
    (show EReal from out0_21 (F := Ideal) x0 x1 x2 x3 x4 x5 x6 x7 (ix3 0 r j)) = proj x0 x1 r ⟨2944 + j.val, h⟩ * Ideal.ofBits .f32 0x3E000000#32 := by
  frame_out
  pointwise [k0_pay73, k0_pay75, k0_pay3, proj]

/-- The stick-breaking keys. -/
theorem sk_apply (r : Fin 256) (j : Fin 256) (h : 3200 + j.val < 3712) :
    (show EReal from out0_22 (F := Ideal) x0 x1 x2 x3 x4 x5 x6 x7 (ix3 0 r j)) = proj x0 x1 r ⟨3200 + j.val, h⟩ := by
  frame_out
  pointwise [k0_pay1, k0_pay74, k0_pay75, k0_pay3, proj]

end Cert.InProjKernel
end
-- ==== Proof.InProjWeight.lean ====
/- The weight that the host builds for the projection call: the columns of the combined projection, repacked. -/
module
public import proofs.«01_k».proof.Proof.Gen.InProjIdeal
public import Idealize.ShloMosaic.Lib.Pipeline.ValueKit
public import Idealize.ShloMosaic.Lib.Pipeline.Value
public import Idealize.ShloMosaic.Lib.Pointwise
public import Idealize.ShloMosaic.Lib.ValueIdx
@[expose] public section
set_option maxRecDepth 16384
noncomputable section
namespace Cert.InProjWeight
open Cert.InProjIdeal Cert.InProjIdeal.Gen Idealize.ShloMosaic Idealize.ShloMosaic.TcCoe Idealize.SL.Sem

/-- The gate's columns, each repeated 64 times. -/
def gates (W : FVec Ideal S1024x2516 .f32) : FVec Ideal S1024x768 .f32 :=
  shapeCast S1024x768 (broadcastInDim S1024x12x64 ![0, 1] bcast_S1024x12_S1024x12x64_0_1
    (extractStridedSlice S1024x12 ![0, 1056] W slices_S1024x2516_S1024x12_0_1056)) shapeCasts_S1024x12x64_S1024x768

/-- The indexer's key columns, eight times side by side. -/
def indexKeys (W : FVec Ideal S1024x2516 .f32) : FVec Ideal S1024x256 .f32 :=
  shapeCast S1024x256 (broadcastInDim S1x1024x8x32 ![0, 1, 2, 3] bcast_S1x1024x1x32_S1x1024x8x32_0_1_2_3
    (shapeCast S1x1024x1x32 (extractStridedSlice S1024x32 ![0, 1708] W slices_S1024x2516_S1024x32_0_1708)
      shapeCasts_S1024x32_S1x1024x1x32)) shapeCasts_S1x1024x8x32_S1024x256

/-- The first 2304 columns of the repacked weight. -/
def front (W : FVec Ideal S1024x2516 .f32) : FVec Ideal S1024x2304 .f32 :=
  concatenate S1024x2304 1
    [⟨S1024x256, extractStridedSlice S1024x256 ![0, 0] W slices_S1024x2516_S1024x256_0_0⟩,
     ⟨S1024x128, extractStridedSlice S1024x128 ![0, 256] W slices_S1024x2516_S1024x128_0_256⟩,
     ⟨S1024x64, broadcastInDim S1024x64 ![] bcast_S_S1024x64 (constant (F := Ideal) S_ .f32 0x00000000#32)⟩,
     ⟨S1024x32, extractStridedSlice S1024x32 ![0, 384] W slices_S1024x2516_S1024x32_0_384⟩,
     ⟨S1024x32, broadcastInDim S1024x32 ![] bcast_S_S1024x32 (constant (F := Ideal) S_ .f32 0x00000000#32)⟩,
     ⟨S1024x256, extractStridedSlice S1024x256 ![0, 416] W slices_S1024x2516_S1024x256_0_416⟩,
     ⟨S1024x64, extractStridedSlice S1024x64 ![0, 672] W slices_S1024x2516_S1024x64_0_672⟩,
     ⟨S1024x64, extractStridedSlice S1024x64 ![0, 736] W slices_S1024x2516_S1024x64_0_736⟩,
     ⟨S1024x64, extractStridedSlice S1024x64 ![0, 800] W slices_S1024x2516_S1024x64_0_800⟩,
     ⟨S1024x64, extractStridedSlice S1024x64 ![0, 864] W slices_S1024x2516_S1024x64_0_864⟩,
     ⟨S1024x64, extractStridedSlice S1024x64 ![0, 928] W slices_S1024x2516_S1024x64_0_928⟩,
     ⟨S1024x64, extractStridedSlice S1024x64 ![0, 992] W slices_S1024x2516_S1024x64_0_992⟩,
     ⟨S1024x768, gates W⟩,
     ⟨S1024x256, extractStridedSlice S1024x256 ![0, 1068] W slices_S1024x2516_S1024x256_0_1068⟩,
     ⟨S1024x64, extractStridedSlice S1024x64 ![0, 1324] W slices_S1024x2516_S1024x64_0_1324⟩,
     ⟨S1024x64, extractStridedSlice S1024x64 ![0, 1388] W slices_S1024x2516_S1024x64_0_1388⟩]
    concatenates_S1024x256_S1024x128_S1024x64_S1024x32_S1024x32_S1024x256_S1024x64_S1024x64_S1024x64_S1024x64_S1024x64_S1024x64_S1024x768_S1024x256_S1024x64_S1024x64_S1024x2304_d1

/-- Its last 1408 columns. -/
def back (W : FVec Ideal S1024x2516 .f32) : FVec Ideal S1024x1408 .f32 :=
  concatenate S1024x1408 1
    [⟨S1024x256, extractStridedSlice S1024x256 ![0, 1452] W slices_S1024x2516_S1024x256_0_1452⟩,
     ⟨S1024x256, indexKeys W⟩,
     ⟨S1024x8, extractStridedSlice S1024x8 ![0, 1740] W slices_S1024x2516_S1024x8_0_1740⟩,
     ⟨S1024x120, broadcastInDim S1024x120 ![] bcast_S_S1024x120 (constant (F := Ideal) S_ .f32 0x00000000#32)⟩,
     ⟨S1024x256, extractStridedSlice S1024x256 ![0, 1748] W slices_S1024x2516_S1024x256_0_1748⟩,
     ⟨S1024x256, extractStridedSlice S1024x256 ![0, 2004] W slices_S1024x2516_S1024x256_0_2004⟩,
     ⟨S1024x256, extractStridedSlice S1024x256 ![0, 2260] W slices_S1024x2516_S1024x256_0_2260⟩]
    concatenates_S1024x256_S1024x256_S1024x8_S1024x120_S1024x256_S1024x256_S1024x256_S1024x1408_d1

/-- The repacked weight. -/
def packed (W : FVec Ideal S1024x2516 .f32) : FVec Ideal S1024x3712 .bf16 :=
  truncf .bf16 (concatenate S1024x3712 1 [⟨S1024x2304, front W⟩, ⟨S1024x1408, back W⟩] concatenates_S1024x2304_S1024x1408_S1024x3712_d1) bitsLt_bf16_f32

/-- A piece of columns in a row of such pieces, read at its column. -/
theorem column_piece {n : Nat} (xs : List ((s : Shape) × (s.Idx → EReal))) (h : Shape.Concatenates (xs.map (·.1)) (⟨2, ![1024, n]⟩ : Shape) 1)
    (k : Fin 1024) (j : Nat) (hj : j < n) (i w : Nat) (hi : i < xs.length) (x : (⟨2, ![1024, w]⟩ : Shape).Idx → EReal) (hx : xs[i] = ⟨(⟨2, ![1024, w]⟩ : Shape), x⟩)
    (pre : Nat) (hpre : (((xs.take i).map (·.1)).map fun s => if h : s.rank = 2 then s.size ((1 : Fin 2).cast h.symm) else 0).sum = pre)
    (b : Fin w) (hb : pre + b.val = j) :
    concatenate (⟨2, ![1024, n]⟩ : Shape) 1 xs h (ix2 k ⟨j, hj⟩) = x (ix2 k b) := by
  refine concatenate_apply_piece (t := (⟨2, ![1024, n]⟩ : Shape)) 1 xs h _ i hi (⟨2, ![1024, w]⟩ : Shape) x hx rfl pre hpre (ix2 k b) ?_ hb
  intro a ha
  match a with
  | 0 => rfl
  | 1 => exact absurd rfl ha

/-- A column of the last part. -/
theorem packed_back (W : FVec Ideal S1024x2516 .f32) (k : Fin 1024) (j : Fin 1408) (h : 2304 + j.val < 3712) :
    (show EReal from packed W (ix2 k ⟨2304 + j.val, h⟩)) = back W (ix2 k j) :=
  column_piece [⟨S1024x2304, front W⟩, ⟨S1024x1408, back W⟩] concatenates_S1024x2304_S1024x1408_S1024x3712_d1 k _ h 1 1408 (Nat.le_of_ble_eq_true rfl) (back W) rfl 2304 rfl j rfl

/-- The stick-breaking queries' columns. -/
theorem packed_sq (W : FVec Ideal S1024x2516 .f32) (k : Fin 1024) (j : Fin 256) (h : 2944 + j.val < 3712) (h' : 1748 + j.val < 2516) :
    (show EReal from packed W (ix2 k ⟨2944 + j.val, h⟩)) = W (ix2 k ⟨1748 + j.val, h'⟩) := by
  have e : (⟨2944 + j.val, h⟩ : Fin 3712) = ⟨2304 + (⟨640 + j.val, by omega⟩ : Fin 1408).val, by show 2304 + (640 + j.val) < 3712; omega⟩ :=
    Fin.ext (by show 2944 + j.val = 2304 + (640 + j.val); omega)
  rw [e]
  refine (packed_back W k _ _).trans ?_
  refine (column_piece _ _ k _ _ 4 256 (Nat.le_of_ble_eq_true rfl) _ rfl 640 rfl j rfl).trans ?_
  pointwise []

/-- The stick-breaking keys' columns. -/
theorem packed_sk (W : FVec Ideal S1024x2516 .f32) (k : Fin 1024) (j : Fin 256) (h : 3200 + j.val < 3712) (h' : 2004 + j.val < 2516) :
    (show EReal from packed W (ix2 k ⟨3200 + j.val, h⟩)) = W (ix2 k ⟨2004 + j.val, h'⟩) := by
  have e : (⟨3200 + j.val, h⟩ : Fin 3712) = ⟨2304 + (⟨896 + j.val, by omega⟩ : Fin 1408).val, by show 2304 + (896 + j.val) < 3712; omega⟩ :=
    Fin.ext (by show 3200 + j.val = 2304 + (896 + j.val); omega)
  rw [e]
  refine (packed_back W k _ _).trans ?_
  refine (column_piece _ _ k _ _ 5 256 (Nat.le_of_ble_eq_true rfl) _ rfl 896 rfl j rfl).trans ?_
  pointwise []

/-- The stick-breaking values' columns. -/
theorem packed_sv (W : FVec Ideal S1024x2516 .f32) (k : Fin 1024) (j : Fin 256) (h : 3456 + j.val < 3712) (h' : 2260 + j.val < 2516) :
    (show EReal from packed W (ix2 k ⟨3456 + j.val, h⟩)) = W (ix2 k ⟨2260 + j.val, h'⟩) := by
  have e : (⟨3456 + j.val, h⟩ : Fin 3712) = ⟨2304 + (⟨1152 + j.val, by omega⟩ : Fin 1408).val, by show 2304 + (1152 + j.val) < 3712; omega⟩ :=
    Fin.ext (by show 3456 + j.val = 2304 + (1152 + j.val); omega)
  rw [e]
  refine (packed_back W k _ _).trans ?_
  refine (column_piece _ _ k _ _ 6 256 (Nat.le_of_ble_eq_true rfl) _ rfl 1152 rfl j rfl).trans ?_
  pointwise []

end Cert.InProjWeight
end
-- ==== Proof.InProjEntry.lean ====
/- What the projection's windows hold when the call starts: the arguments as the host repacked them. -/
module
public import proofs.«01_k».proof.Proof.Gen.InProjIdeal.Frame
public import proofs.«01_k».proof.Proof.InProjWeight
public import Idealize.ShloMosaic.Lib.Pipeline.ValueKit
public import Idealize.ShloMosaic.Lib.Pipeline.Value
public import Idealize.ShloMosaic.Lib.Pointwise
public import Idealize.ShloMosaic.Lib.ValueIdx
@[expose] public section
set_option maxRecDepth 16384
noncomputable section
namespace Cert.InProjEntry
open Cert.InProjIdeal Cert.InProjIdeal.Gen Idealize.ShloMosaic Idealize.ShloMosaic.TcCoe Idealize.SL.Sem

variable (m : (ℓ : Loc nD τ sig) → Buf (Elt Ideal) ℓ)

/-- The repacked weight is what the kernel's second argument holds when the call starts. -/
theorem weight_entry (c : Dev nD) : (show FVec Ideal S1024x3712 .bf16 from V m c main_v43)
    = InProjWeight.packed (m ((c : Thread nD τ).loc main_arg1)) := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl
end Cert.InProjEntry
end
-- ==== Proof.InProjSpec.lean ====
/- The projection call's results that are not rotated, as sums of products: a row of the input times columns of the weight. -/
module
public import Idealize.ShloMosaic.Lib.ValueIdx
public import Idealize.ShloMosaic.Lib.Pointwise
@[expose] public section
noncomputable section
namespace Cert.InProjSpec
open Idealize.ShloMosaic

/-- Row `n` of batch `b` times column `c` of the combined projection. -/
def column (X : FVec Ideal ⟨3, ![16, 2048, 1024]⟩ .f32) (W : FVec Ideal ⟨2, ![1024, 2516]⟩ .f32) (b : Fin 16) (n : Fin 2048) (c : Fin 2516) : EReal :=
  ∑ k : Fin 1024, X (ix3 b n k) * W (ix2 k c)

variable (X : FVec Ideal ⟨3, ![16, 2048, 1024]⟩ .f32) (W : FVec Ideal ⟨2, ![1024, 2516]⟩ .f32)

/-- The stick-breaking queries, scaled. -/
def queries (b : Fin 16) (n : Fin 2048) (j : Fin 256) : EReal :=
  column X W b n ⟨1748 + j.val, by omega⟩ * Ideal.ofBits .f32 0x3E000000#32

/-- The stick-breaking keys. -/
def keys (b : Fin 16) (n : Fin 2048) (j : Fin 256) : EReal := column X W b n ⟨2004 + j.val, by omega⟩

/-- The stick-breaking values. -/
def values (b : Fin 16) (n : Fin 2048) (j : Fin 256) : EReal := column X W b n ⟨2260 + j.val, by omega⟩

end Cert.InProjSpec
end
-- ==== Proof.InProjArray.lean ====
/- What the points of the projection call read from the arrays, and the arrays that its unrotated results make up. -/
module
public import proofs.«01_k».proof.Proof.InProjKernel
public import proofs.«01_k».proof.Proof.InProjEntry
public import proofs.«01_k».proof.Proof.InProjSpec
@[expose] public section
set_option maxRecDepth 16384
noncomputable section
namespace Cert.InProjArray
open Cert.InProjIdeal Cert.InProjIdeal.Gen Idealize.ShloMosaic Idealize.ShloMosaic.TcCoe Idealize.SL.Sem
open Idealize.ShloMosaic.Pipeline (Dat)

/-- Where each window's block sits: point `t` is batch `t / 8`, block of rows `t % 8`. -/
theorem index_maps : ∀ t : Fin cfg0.N, win0_0.index t = ![t.val / 8, t.val % 8, 0] ∧ win0_1.index t = ![0, 0]
    ∧ win0_20.index t = ![t.val / 8, t.val % 8, 0] ∧ win0_21.index t = ![t.val / 8, t.val % 8, 0] ∧ win0_22.index t = ![t.val / 8, t.val % 8, 0]
    ∧ win0_23.index t = ![t.val / 8, t.val % 8, 0] ∧ t.val < 128 :=
  (by decide +kernel : ∀ t : Fin grid0.N, _)

variable (m : (ℓ : Loc nD τ sig) → Buf (Elt Ideal) ℓ)

/-- The first window's block is 256 rows of its array, whatever that holds. -/
theorem rows_block (t : Fin cfg0.N) (X : FVec Ideal S16x2048x1024 .f32) (r : Fin 256) (k : Fin 1024) (h0 : t.val / 8 < 16) (h : 256 * (t.val % 8) + r.val < 2048) :
    (show FVec Ideal S1x256x1024 .f32 from ((cfg0.win 0).blk t).view.read (Elt Ideal) X) (ix3 0 r k)
      = X (ix3 ⟨t.val / 8, h0⟩ ⟨256 * (t.val % 8) + r.val, h⟩ k) := by
  blk_ext [index_maps t]

/-- The second window's block is the whole of its array. -/
theorem weight_block (t : Fin cfg0.N) (W : FVec Ideal S1024x3712 .bf16) (k : Fin 1024) (j : Fin 3712) :
    (show FVec Ideal S1024x3712 .bf16 from ((cfg0.win 1).blk t).view.read (Elt Ideal) W) (ix2 k j) = W (ix2 k j) := by
  blk_ext [index_maps t]

theorem rows_read (c : Dev nD) (t : Fin cfg0.N) (r : Fin 256) (k : Fin 1024) (h0 : t.val / 8 < 16) (h : 256 * (t.val % 8) + r.val < 2048) :
    (show FVec Ideal S1x256x1024 .f32 from iblk m c 0 t) (ix3 0 r k)
      = (show FVec Ideal S16x2048x1024 .f32 from m ((c : Thread nD τ).loc main_arg0)) (ix3 ⟨t.val / 8, h0⟩ ⟨256 * (t.val % 8) + r.val, h⟩ k) := by
  have e : iblk m c 0 t = ((cfg0.win 0).blk t).view.read (Elt Ideal) (m ((c : Thread nD τ).loc main_arg0) : FVec Ideal S16x2048x1024 .f32) := by
    unfold iblk
    exact congrArg _ (V_main_arg0 m c)
  rw [e]
  exact rows_block t _ r k h0 h

theorem weight_read (c : Dev nD) (t : Fin cfg0.N) (k : Fin 1024) (j : Fin 3712) :
    (show FVec Ideal S1024x3712 .bf16 from iblk m c 1 t) (ix2 k j)
      = InProjWeight.packed (m ((c : Thread nD τ).loc main_arg1)) (ix2 k j) := by
  have e : iblk m c 1 t = ((cfg0.win 1).blk t).view.read (Elt Ideal) (InProjWeight.packed (m ((c : Thread nD τ).loc main_arg1)) : FVec Ideal S1024x3712 .bf16) := by
    unfold iblk
    exact congrArg _ (InProjEntry.weight_entry m c)
  rw [e]
  exact weight_block t _ k j

/-- A product of a point's block with a column of the repacked weight is the row times the column it was packed from. -/
theorem proj_eq (c : Dev nD) (t : Fin cfg0.N) (r : Fin 256) (j : Fin 3712) (j' : Fin 2516) (h0 : t.val / 8 < 16) (h : 256 * (t.val % 8) + r.val < 2048)
    (hj : ∀ (W : FVec Ideal S1024x2516 .f32) (k : Fin 1024), (show EReal from InProjWeight.packed W (ix2 k j)) = W (ix2 k j')) :
    InProjKernel.proj (iblk m c 0 t) (iblk m c 1 t) r j
      = InProjSpec.column (m ((c : Thread nD τ).loc main_arg0)) (m ((c : Thread nD τ).loc main_arg1)) ⟨t.val / 8, h0⟩ ⟨256 * (t.val % 8) + r.val, h⟩ j' :=
  Finset.sum_congr rfl fun k _ => congrArg₂ _ (rows_read m c t r k h0 h) ((weight_read m c t k j).trans (hj _ k))

/-- The stick-breaking queries' array. -/
theorem queries_array (c : Dev nD) : (dats m 0 c).arrAt 21 cfg0.N = (fun j => InProjSpec.queries (m ((c : Thread nD τ).loc main_arg0)) (m ((c : Thread nD τ).loc main_arg1)) (j 0) (j 1) (j 2) : FVec Ideal S16x2048x256 .bf16) := by
  refine (dats m 0 c).arrAt_eq_of_covers 21 _ (by decide +kernel) fun t _ y => ?_
  blk_simp
  rw [after0_21]
  idx_vars y
  obtain ⟨-, -, -, -, -, -, ht⟩ := index_maps t
  obtain rfl : y0 = 0 := Subsingleton.elim _ _
  have h0 : t.val / 8 < 16 := by omega
  have hn : 256 * (t.val % 8) + y1.val < 2048 := by omega
  refine (InProjKernel.sq_apply _ _ _ _ _ _ _ _ y1 y2 (by omega)).trans ?_
  have he : ((View.whole main_v119_13).slice (win0_21.rect t)).emb (ix3 0 y1 y2)
      = (ix3 ⟨t.val / 8, h0⟩ ⟨256 * (t.val % 8) + y1.val, hn⟩ y2 : S16x2048x256.Idx) := by
    blk_ext [index_maps t]
  rw [he]
  exact congrArg (· * _) (proj_eq m c t y1 _ _ h0 hn fun W k => InProjWeight.packed_sq W k y2 _ _)

/-- The stick-breaking keys' array. -/
theorem keys_array (c : Dev nD) : (dats m 0 c).arrAt 22 cfg0.N = (fun j => InProjSpec.keys (m ((c : Thread nD τ).loc main_arg0)) (m ((c : Thread nD τ).loc main_arg1)) (j 0) (j 1) (j 2) : FVec Ideal S16x2048x256 .bf16) := by
  refine (dats m 0 c).arrAt_eq_of_covers 22 _ (by decide +kernel) fun t _ y => ?_
  blk_simp
  rw [after0_22]
  idx_vars y
  obtain ⟨-, -, -, -, -, -, ht⟩ := index_maps t
  obtain rfl : y0 = 0 := Subsingleton.elim _ _
  have h0 : t.val / 8 < 16 := by omega
  have hn : 256 * (t.val % 8) + y1.val < 2048 := by omega
  refine (InProjKernel.sk_apply _ _ _ _ _ _ _ _ y1 y2 (by omega)).trans ?_
  have he : ((View.whole main_v119_14).slice (win0_22.rect t)).emb (ix3 0 y1 y2)
      = (ix3 ⟨t.val / 8, h0⟩ ⟨256 * (t.val % 8) + y1.val, hn⟩ y2 : S16x2048x256.Idx) := by
    blk_ext [index_maps t]
  rw [he]
  exact (proj_eq m c t y1 _ _ h0 hn fun W k => InProjWeight.packed_sk W k y2 _ _)

/-- The stick-breaking values' array. -/
theorem values_array (c : Dev nD) : (dats m 0 c).arrAt 23 cfg0.N = (fun j => InProjSpec.values (m ((c : Thread nD τ).loc main_arg0)) (m ((c : Thread nD τ).loc main_arg1)) (j 0) (j 1) (j 2) : FVec Ideal S16x2048x256 .bf16) := by
  refine (dats m 0 c).arrAt_eq_of_covers 23 _ (by decide +kernel) fun t _ y => ?_
  blk_simp
  rw [after0_23]
  idx_vars y
  obtain ⟨-, -, -, -, -, -, ht⟩ := index_maps t
  obtain rfl : y0 = 0 := Subsingleton.elim _ _
  have h0 : t.val / 8 < 16 := by omega
  have hn : 256 * (t.val % 8) + y1.val < 2048 := by omega
  refine (InProjKernel.sv_apply _ _ _ _ _ _ _ _ y1 y2 (by omega)).trans ?_
  have he : ((View.whole main_v119_15).slice (win0_23.rect t)).emb (ix3 0 y1 y2)
      = (ix3 ⟨t.val / 8, h0⟩ ⟨256 * (t.val % 8) + y1.val, hn⟩ y2 : S16x2048x256.Idx) := by
    blk_ext [index_maps t]
  rw [he]
  exact (proj_eq m c t y1 _ _ h0 hn fun W k => InProjWeight.packed_sv W k y2 _ _)

end Cert.InProjArray
end
-- ==== Proof.InProjRun.lean ====
/- What the projection call's idealization leaves in its three result arrays. -/
module
public import proofs.«01_k».proof.Proof.InProjArray
@[expose] public section
set_option maxRecDepth 16384
noncomputable section
namespace Cert.InProjRun
open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ) (g : Dev nD → PrngReg)

/-- The queries', keys' and values' arrays after the run; the arguments keep their contents. -/
theorem run : θ_run (defs (F := Ideal)) (onTc (τ := τ) (main (F := Ideal))) ⟨m, fun _ => 0, g⟩ fun r => ∀ c : Dev nD,
      r.2.mem ((c : Thread nD τ).loc main_v119_13)
        = (fun j => InProjSpec.queries (m ((c : Thread nD τ).loc main_arg0)) (m ((c : Thread nD τ).loc main_arg1)) (j 0) (j 1) (j 2) : FVec Ideal S16x2048x256 .bf16)
      ∧ r.2.mem ((c : Thread nD τ).loc main_v119_14)
        = (fun j => InProjSpec.keys (m ((c : Thread nD τ).loc main_arg0)) (m ((c : Thread nD τ).loc main_arg1)) (j 0) (j 1) (j 2) : FVec Ideal S16x2048x256 .bf16)
      ∧ r.2.mem ((c : Thread nD τ).loc main_v119_15)
        = (fun j => InProjSpec.values (m ((c : Thread nD τ).loc main_arg0)) (m ((c : Thread nD τ).loc main_arg1)) (j 0) (j 1) (j 2) : FVec Ideal S16x2048x256 .bf16)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h.2 c).1 21).trans (InProjArray.queries_array m c), ((h.2 c).1 22).trans (InProjArray.keys_array m c),
    ((h.2 c).1 23).trans (InProjArray.values_array m c), h.1 c⟩) (θ_run_and (unchanged m g) (run_main m g))

end Cert.InProjRun
end
-- ==== Proof.InProjReference.lean ====
/- What the projection's reference computes. -/
module
public import proofs.«01_k».proof.Proof.InProjSpec
public import proofs.«01_k».proof.Proof.Gen.InProjRefIdeal.Read
public import Idealize.ShloMosaic.Lib.Pointwise
public import Idealize.ShloMosaic.Lib.ValueIdx
@[expose] public section
set_option maxRecDepth 16384
noncomputable section
namespace Cert.InProjReference
open Cert.InProjRefIdeal Cert.InProjRefIdeal.Gen Cert.InProjRefIdeal.Read Idealize.ShloMosaic Idealize.ShloMosaic.TcCoe Idealize.SL.Sem

/-- The reference's stick-breaking queries. -/
theorem queries_apply (X : FVec Ideal S16x2048x1024 .f32) (W : FVec Ideal S1024x2516 .f32) (b : Fin 16) (n : Fin 2048) (j : Fin 256) :
    (val_main_v23 (F := Ideal) X W : FVec Ideal S16x2048x256 .bf16) (ix3 b n j) = InProjSpec.queries X W b n j := by
  rw [← val_main_v23_eq]
  pointwise [InProjSpec.queries, InProjSpec.column]

/-- The reference's stick-breaking keys. -/
theorem keys_apply (X : FVec Ideal S16x2048x1024 .f32) (W : FVec Ideal S1024x2516 .f32) (b : Fin 16) (n : Fin 2048) (j : Fin 256) :
    (val_main_v24 (F := Ideal) X W : FVec Ideal S16x2048x256 .bf16) (ix3 b n j) = InProjSpec.keys X W b n j := by
  rw [← val_main_v24_eq]
  pointwise [InProjSpec.keys, InProjSpec.column]

/-- The reference's stick-breaking values. -/
theorem values_apply (X : FVec Ideal S16x2048x1024 .f32) (W : FVec Ideal S1024x2516 .f32) (b : Fin 16) (n : Fin 2048) (j : Fin 256) :
    (val_main_v25 (F := Ideal) X W : FVec Ideal S16x2048x256 .bf16) (ix3 b n j) = InProjSpec.values X W b n j := by
  rw [← val_main_v25_eq]
  pointwise [InProjSpec.values, InProjSpec.column]

end Cert.InProjReference
end
-- ==== Proof.InProjClaims.lean ====
/- The claims about the projection call: the frames of its three programs, that its idealization changes nothing, and that
   over the extended reals it computes the reference's stick-breaking queries, keys and values. -/
module

public import proofs.«01_k».proof.Defs
public import proofs.«01_k».proof.Proof.InProjRun
public import proofs.«01_k».proof.Proof.InProjReference
public import proofs.«01_k».proof.Proof.Gen.InProj.Frame
public import Idealize.ShloMosaic.Lib.Claim

@[expose] public section

set_option maxRecDepth 16384

noncomputable section

namespace Cert.InProjClaims

open Idealize.ShloMosaic Idealize.SL.Sem

/-- The kernel ends, leaving its arguments unchanged. -/
theorem frame_kernel : Cert.quiescent_InProj := by
  intro m g _
  exact Cert.InProj.Gen.frame m g

/-- So does its idealization. -/
theorem frame_ideal : Cert.quiescent_InProjIdeal := by
  intro m g _
  exact Cert.InProjIdeal.Gen.frame m g

/-- So does the reference. -/
theorem frame_reference : Cert.quiescent_InProjRefIdeal := by
  intro m g _
  hlo_run
  · exact fun _ => ⟨trivial, trivial, trivial, trivial, trivial, trivial⟩
  · exact sem_eq_zero_of_no_sems (by rfl) _

/-- The idealization rewrites nothing. -/
theorem preserves : Cert.preserves_InProj_InProjIdeal := trivial

/-- The kernel's queries, keys and values are the reference's, for all inputs and weights. -/
theorem algebraic : Cert.algebraic_InProjIdeal_InProjRefIdeal := by
  pair_intro
  · run_from InProjRun.run m g
  · run_from Cert.InProjRefIdeal.Value.run m' g'
    · funext j
      idx_vars j
      exact InProjReference.queries_apply _ _ j0 j1 j2
    · funext j
      idx_vars j
      exact InProjReference.keys_apply _ _ j0 j1 j2
    · funext j
      idx_vars j
      exact InProjReference.values_apply _ _ j0 j1 j2

end Cert.InProjClaims

end
-- ==== Proof.lean ====
module

public import proofs.«01_k».proof.Defs
public import proofs.«01_k».proof.Proof.Gen.Attention
public import proofs.«01_k».proof.Proof.Gen.Attention.Skeleton
public import proofs.«01_k».proof.Proof.Gen.Attention.Loops
public import proofs.«01_k».proof.Proof.Gen.Attention.Launch
public import proofs.«01_k».proof.Proof.Gen.Attention.Points
public import proofs.«01_k».proof.Proof.Gen.Attention.Frame
public import proofs.«01_k».proof.Proof.Gen.AttentionIdeal
public import proofs.«01_k».proof.Proof.Gen.AttentionIdeal.Skeleton
public import proofs.«01_k».proof.Proof.Gen.AttentionIdeal.Loops
public import proofs.«01_k».proof.Proof.Gen.AttentionIdeal.Launch
public import proofs.«01_k».proof.Proof.Gen.AttentionIdeal.Points
public import proofs.«01_k».proof.Proof.Gen.AttentionIdeal.Frame
public import proofs.«01_k».proof.Proof.Gen.AttentionRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.AttentionIdeal.Value
public import proofs.«01_k».proof.Proof.Gen.FfnIdeal.Value
public import proofs.«01_k».proof.Proof.Gen.AttentionRefIdeal.Run
public import proofs.«01_k».proof.Proof.Gen.AttentionRefIdeal.Read
public import proofs.«01_k».proof.Proof.Gen.FfnRefIdeal.Run
public import proofs.«01_k».proof.Proof.Gen.FfnRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.StickBreaking
public import proofs.«01_k».proof.Proof.Gen.StickBreaking.Skeleton
public import proofs.«01_k».proof.Proof.Gen.StickBreaking.Launch
public import proofs.«01_k».proof.Proof.Gen.StickBreaking.Points
public import proofs.«01_k».proof.Proof.Gen.StickBreaking.Frame
public import proofs.«01_k».proof.Proof.Gen.StickBreaking.Loops
public import proofs.«01_k».proof.Proof.Gen.StickBreakingIdeal
public import proofs.«01_k».proof.Proof.Gen.StickBreakingIdeal.Skeleton
public import proofs.«01_k».proof.Proof.Gen.StickBreakingIdeal.Launch
public import proofs.«01_k».proof.Proof.Gen.StickBreakingIdeal.Points
public import proofs.«01_k».proof.Proof.Gen.StickBreakingIdeal.Frame
public import proofs.«01_k».proof.Proof.Gen.StickBreakingIdeal.Loops
public import proofs.«01_k».proof.Proof.Gen.StickBreakingRefIdeal
public import proofs.«01_k».proof.Proof.Gen.StickBreakingIdeal.Value
public import proofs.«01_k».proof.Proof.Gen.StickBreakingRefIdeal.Run
public import proofs.«01_k».proof.Proof.Gen.StickBreakingRefIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Run
public import proofs.«01_k».proof.Proof.Gen.InProjRefIdeal.Read
public import proofs.«01_k».proof.Proof.AttentionClaims
public import proofs.«01_k».proof.Proof.FfnClaims
public import proofs.«01_k».proof.Proof.OutProjClaims
public import proofs.«01_k».proof.Proof.StickClaims
public import proofs.«01_k».proof.Proof.InProjClaims
public import Idealize.ShloMosaic.Adequacy
public import Idealize.ShloMosaic.Init

@[expose] public section

noncomputable section

-- The claims about every program also say that every semaphore counter ends at zero; the proof shows that too.

namespace Cert.Proof

open Idealize.ShloMosaic Idealize.SL.Sem Cert.Attention

theorem claim : Cert.Claim := ⟨Cert.Attention.Gen.facts, Cert.AttentionIdeal.Gen.facts, Cert.AttentionRefIdeal.Gen.facts, Cert.Ffn.Gen.facts, Cert.FfnIdeal.Gen.facts, Cert.FfnRefIdeal.Gen.facts,
  Cert.OutProj.Gen.facts, Cert.OutProjIdeal.Gen.facts, Cert.OutProjRefIdeal.Gen.facts,
  Cert.StickBreaking.Gen.facts, Cert.StickBreakingIdeal.Gen.facts, Cert.StickBreakingRefIdeal.Gen.facts,
  Cert.InProj.Gen.facts, Cert.InProjIdeal.Gen.facts, Cert.InProjRefIdeal.Gen.facts,
  AttentionClaims.frame_kernel, AttentionClaims.frame_ideal, AttentionClaims.frame_reference,
  FfnClaims.frame_kernel, FfnClaims.frame_ideal, FfnClaims.frame_reference,
  OutProjClaims.frame_kernel, OutProjClaims.frame_ideal, OutProjClaims.frame_reference,
  StickClaims.frame_kernel, StickClaims.frame_ideal, StickClaims.frame_reference,
  InProjClaims.frame_kernel, InProjClaims.frame_ideal, InProjClaims.frame_reference,
  AttentionClaims.preserves, AttentionClaims.algebraic, FfnClaims.preserves, FfnClaims.algebraic,
  OutProjClaims.preserves, OutProjClaims.algebraic,
  StickClaims.preserves, StickClaims.algebraic,
  InProjClaims.preserves, InProjClaims.algebraic⟩

end Cert.Proof

end
